-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S1 : Shape := ⟨1, ![1]⟩
abbrev S4096x256 : Shape := ⟨2, ![4096, 256]⟩
abbrev S6x4096x256 : Shape := ⟨3, ![6, 4096, 256]⟩
abbrev S7x512x256 : Shape := ⟨3, ![7, 512, 256]⟩
abbrev S6 : Shape := ⟨1, ![6]⟩
abbrev S7 : Shape := ⟨1, ![7]⟩
abbrev S_ : Shape := ⟨0, ![]⟩
abbrev S1x4096x256 : Shape := ⟨3, ![1, 4096, 256]⟩
abbrev S512x256 : Shape := ⟨2, ![512, 256]⟩
abbrev S1x512x256 : Shape := ⟨3, ![1, 512, 256]⟩

abbrev nBuf : Space → Nat
  | .hbm => 5
  | .vmem => 6
  | .smem => 2
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .f32⟩
  | .local _ .vmem, ⟨1, _⟩ => ⟨S4096x256, .f32⟩
  | .local _ .vmem, ⟨2, _⟩ => ⟨S512x4096, .fp8e4m3⟩
  | .local _ .vmem, ⟨3, _⟩ => ⟨S6x4096x256, .f32⟩
  | .local _ .vmem, ⟨4, _⟩ => ⟨S7x512x256, .bf16⟩
  | .local _ .vmem, ⟨5, _⟩ => ⟨S7x512x256, .bf16⟩
  | .local _ .smem, ⟨0, _⟩ => ⟨S1, .f32⟩
  | .local _ .smem, ⟨1, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c0_i32_66 : BitVec 32) : Fin 2 → Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_65 : BitVec 32 := 1#32
  let v98 : BitVec 32 := Scalar.addi v2 c1_i32_65
  let v99 : BitVec 32 := Scalar.addi v98 c0_i32_66
  let c8_i32_67 : BitVec 32 := 8#32
  let c0_i32_68 : BitVec 32 := 0#32
  let v100 : BitVec 1 := Scalar.cmpi .eq c8_i32_67 c0_i32_68
  let c1_i32_69 : BitVec 32 := 1#32
  let v101 : BitVec 32 := Scalar.select v100 c1_i32_69 c8_i32_67
  let v102 : BitVec 32 := Scalar.remsi v99 v101
  let c0_i32_71 : BitVec 32 := 0#32
  let v104 : BitVec 1 := Scalar.cmpi .slt v102 c0_i32_71
  let c0_i32_72 : BitVec 32 := 0#32
  let v105 : BitVec 1 := Scalar.cmpi .slt v101 c0_i32_72
  let v106 : BitVec 1 := Scalar.xori v104 v105
  let c0_i32_70 : BitVec 32 := 0#32
  let v103 : BitVec 1 := Scalar.cmpi .ne v102 c0_i32_70
  let v107 : BitVec 1 := Scalar.andi v106 v103
  let v108 : BitVec 32 := Scalar.addi v102 v101
  let v109 : BitVec 32 := Scalar.select v107 v108 v102
  let c256_i32 : BitVec 32 := 256#32
  let v110 : BitVec 32 := Scalar.muli v109 c256_i32
  ![0, v110.toNat]
def k0_dev8 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_174 : BitVec 32 := 1#32
  let v241 : BitVec 32 := Scalar.addi v2 c1_i32_174
  let c8_i32_175 : BitVec 32 := 8#32
  let c0_i32_176 : BitVec 32 := 0#32
  let v242 : BitVec 1 := Scalar.cmpi .eq c8_i32_175 c0_i32_176
  let c1_i32_177 : BitVec 32 := 1#32
  let v243 : BitVec 32 := Scalar.select v242 c1_i32_177 c8_i32_175
  let v244 : BitVec 32 := Scalar.remsi v241 v243
  let c0_i32_179 : BitVec 32 := 0#32
  let v246 : BitVec 1 := Scalar.cmpi .slt v244 c0_i32_179
  let c0_i32_180 : BitVec 32 := 0#32
  let v247 : BitVec 1 := Scalar.cmpi .slt v243 c0_i32_180
  let v248 : BitVec 1 := Scalar.xori v246 v247
  let c0_i32_178 : BitVec 32 := 0#32
  let v245 : BitVec 1 := Scalar.cmpi .ne v244 c0_i32_178
  let v249 : BitVec 1 := Scalar.andi v248 v245
  let v250 : BitVec 32 := Scalar.addi v244 v243
  let v251 : BitVec 32 := Scalar.select v249 v250 v244
  let c1_i32_185 : BitVec 32 := 1#32
  let v252 : BitVec 32 := Scalar.muli v251 c1_i32_185
  let v253 : BitVec 32 := Scalar.addi c0_i32_186 v252
  v253.toNat
def k0_dev9 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_227 : BitVec 32 := 2#32
  let v309 : BitVec 32 := Scalar.addi v2 c2_i32_227
  let c8_i32_228 : BitVec 32 := 8#32
  let c0_i32_229 : BitVec 32 := 0#32
  let v310 : BitVec 1 := Scalar.cmpi .eq c8_i32_228 c0_i32_229
  let c1_i32_230 : BitVec 32 := 1#32
  let v311 : BitVec 32 := Scalar.select v310 c1_i32_230 c8_i32_228
  let v312 : BitVec 32 := Scalar.remsi v309 v311
  let c0_i32_232 : BitVec 32 := 0#32
  let v314 : BitVec 1 := Scalar.cmpi .slt v312 c0_i32_232
  let c0_i32_233 : BitVec 32 := 0#32
  let v315 : BitVec 1 := Scalar.cmpi .slt v311 c0_i32_233
  let v316 : BitVec 1 := Scalar.xori v314 v315
  let c0_i32_231 : BitVec 32 := 0#32
  let v313 : BitVec 1 := Scalar.cmpi .ne v312 c0_i32_231
  let v317 : BitVec 1 := Scalar.andi v316 v313
  let v318 : BitVec 32 := Scalar.addi v312 v311
  let v319 : BitVec 32 := Scalar.select v317 v318 v312
  let c1_i32_238 : BitVec 32 := 1#32
  let v320 : BitVec 32 := Scalar.muli v319 c1_i32_238
  let v321 : BitVec 32 := Scalar.addi c0_i32_239 v320
  v321.toNat
def k0_dev10 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_280 : BitVec 32 := 3#32
  let v377 : BitVec 32 := Scalar.addi v2 c3_i32_280
  let c8_i32_281 : BitVec 32 := 8#32
  let c0_i32_282 : BitVec 32 := 0#32
  let v378 : BitVec 1 := Scalar.cmpi .eq c8_i32_281 c0_i32_282
  let c1_i32_283 : BitVec 32 := 1#32
  let v379 : BitVec 32 := Scalar.select v378 c1_i32_283 c8_i32_281
  let v380 : BitVec 32 := Scalar.remsi v377 v379
  let c0_i32_285 : BitVec 32 := 0#32
  let v382 : BitVec 1 := Scalar.cmpi .slt v380 c0_i32_285
  let c0_i32_286 : BitVec 32 := 0#32
  let v383 : BitVec 1 := Scalar.cmpi .slt v379 c0_i32_286
  let v384 : BitVec 1 := Scalar.xori v382 v383
  let c0_i32_284 : BitVec 32 := 0#32
  let v381 : BitVec 1 := Scalar.cmpi .ne v380 c0_i32_284
  let v385 : BitVec 1 := Scalar.andi v384 v381
  let v386 : BitVec 32 := Scalar.addi v380 v379
  let v387 : BitVec 32 := Scalar.select v385 v386 v380
  let c1_i32_291 : BitVec 32 := 1#32
  let v388 : BitVec 32 := Scalar.muli v387 c1_i32_291
  let v389 : BitVec 32 := Scalar.addi c0_i32_292 v388
  v389.toNat
def k0_dev11 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_319 : BitVec 32 := 4#32
  let v427 : BitVec 32 := Scalar.addi v2 c4_i32_319
  let c8_i32_320 : BitVec 32 := 8#32
  let c0_i32_321 : BitVec 32 := 0#32
  let v428 : BitVec 1 := Scalar.cmpi .eq c8_i32_320 c0_i32_321
  let c1_i32_322 : BitVec 32 := 1#32
  let v429 : BitVec 32 := Scalar.select v428 c1_i32_322 c8_i32_320
  let v430 : BitVec 32 := Scalar.remsi v427 v429
  let c0_i32_324 : BitVec 32 := 0#32
  let v432 : BitVec 1 := Scalar.cmpi .slt v430 c0_i32_324
  let c0_i32_325 : BitVec 32 := 0#32
  let v433 : BitVec 1 := Scalar.cmpi .slt v429 c0_i32_325
  let v434 : BitVec 1 := Scalar.xori v432 v433
  let c0_i32_323 : BitVec 32 := 0#32
  let v431 : BitVec 1 := Scalar.cmpi .ne v430 c0_i32_323
  let v435 : BitVec 1 := Scalar.andi v434 v431
  let v436 : BitVec 32 := Scalar.addi v430 v429
  let v437 : BitVec 32 := Scalar.select v435 v436 v430
  let c1_i32_330 : BitVec 32 := 1#32
  let v438 : BitVec 32 := Scalar.muli v437 c1_i32_330
  let v439 : BitVec 32 := Scalar.addi c0_i32_331 v438
  v439.toNat
def k0_dev12 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_358 : BitVec 32 := 5#32
  let v477 : BitVec 32 := Scalar.addi v2 c5_i32_358
  let c8_i32_359 : BitVec 32 := 8#32
  let c0_i32_360 : BitVec 32 := 0#32
  let v478 : BitVec 1 := Scalar.cmpi .eq c8_i32_359 c0_i32_360
  let c1_i32_361 : BitVec 32 := 1#32
  let v479 : BitVec 32 := Scalar.select v478 c1_i32_361 c8_i32_359
  let v480 : BitVec 32 := Scalar.remsi v477 v479
  let c0_i32_363 : BitVec 32 := 0#32
  let v482 : BitVec 1 := Scalar.cmpi .slt v480 c0_i32_363
  let c0_i32_364 : BitVec 32 := 0#32
  let v483 : BitVec 1 := Scalar.cmpi .slt v479 c0_i32_364
  let v484 : BitVec 1 := Scalar.xori v482 v483
  let c0_i32_362 : BitVec 32 := 0#32
  let v481 : BitVec 1 := Scalar.cmpi .ne v480 c0_i32_362
  let v485 : BitVec 1 := Scalar.andi v484 v481
  let v486 : BitVec 32 := Scalar.addi v480 v479
  let v487 : BitVec 32 := Scalar.select v485 v486 v480
  let c1_i32_369 : BitVec 32 := 1#32
  let v488 : BitVec 32 := Scalar.muli v487 c1_i32_369
  let v489 : BitVec 32 := Scalar.addi c0_i32_370 v488
  v489.toNat
def k0_dev13 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_397 : BitVec 32 := 6#32
  let v527 : BitVec 32 := Scalar.addi v2 c6_i32_397
  let c8_i32_398 : BitVec 32 := 8#32
  let c0_i32_399 : BitVec 32 := 0#32
  let v528 : BitVec 1 := Scalar.cmpi .eq c8_i32_398 c0_i32_399
  let c1_i32_400 : BitVec 32 := 1#32
  let v529 : BitVec 32 := Scalar.select v528 c1_i32_400 c8_i32_398
  let v530 : BitVec 32 := Scalar.remsi v527 v529
  let c0_i32_402 : BitVec 32 := 0#32
  let v532 : BitVec 1 := Scalar.cmpi .slt v530 c0_i32_402
  let c0_i32_403 : BitVec 32 := 0#32
  let v533 : BitVec 1 := Scalar.cmpi .slt v529 c0_i32_403
  let v534 : BitVec 1 := Scalar.xori v532 v533
  let c0_i32_401 : BitVec 32 := 0#32
  let v531 : BitVec 1 := Scalar.cmpi .ne v530 c0_i32_401
  let v535 : BitVec 1 := Scalar.andi v534 v531
  let v536 : BitVec 32 := Scalar.addi v530 v529
  let v537 : BitVec 32 := Scalar.select v535 v536 v530
  let c1_i32_408 : BitVec 32 := 1#32
  let v538 : BitVec 32 := Scalar.muli v537 c1_i32_408
  let v539 : BitVec 32 := Scalar.addi c0_i32_409 v538
  v539.toNat
def k0_dev14 (d0 : Dev nD) : Nat :=
  let c0_i32_448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_436 : BitVec 32 := 7#32
  let v577 : BitVec 32 := Scalar.addi v2 c7_i32_436
  let c8_i32_437 : BitVec 32 := 8#32
  let c0_i32_438 : BitVec 32 := 0#32
  let v578 : BitVec 1 := Scalar.cmpi .eq c8_i32_437 c0_i32_438
  let c1_i32_439 : BitVec 32 := 1#32
  let v579 : BitVec 32 := Scalar.select v578 c1_i32_439 c8_i32_437
  let v580 : BitVec 32 := Scalar.remsi v577 v579
  let c0_i32_441 : BitVec 32 := 0#32
  let v582 : BitVec 1 := Scalar.cmpi .slt v580 c0_i32_441
  let c0_i32_442 : BitVec 32 := 0#32
  let v583 : BitVec 1 := Scalar.cmpi .slt v579 c0_i32_442
  let v584 : BitVec 1 := Scalar.xori v582 v583
  let c0_i32_440 : BitVec 32 := 0#32
  let v581 : BitVec 1 := Scalar.cmpi .ne v580 c0_i32_440
  let v585 : BitVec 1 := Scalar.andi v584 v581
  let v586 : BitVec 32 := Scalar.addi v580 v579
  let v587 : BitVec 32 := Scalar.select v585 v586 v580
  let c1_i32_447 : BitVec 32 := 1#32
  let v588 : BitVec 32 := Scalar.muli v587 c1_i32_447
  let v589 : BitVec 32 := Scalar.addi c0_i32_448 v588
  v589.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v623 : BitVec 32 := Scalar.muli v2 c512_i32
  let v624 : Index := Scalar.indexCast v623
  let c0_473 : Index := 0#32
  ![v624.toNat, 0]
def k0_off3 (d0 : Dev nD) (c1_i32_474 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v626 : BitVec 32 := Scalar.subi v2 c1_i32_474
  let c8_i32_475 : BitVec 32 := 8#32
  let c0_i32_476 : BitVec 32 := 0#32
  let v627 : BitVec 1 := Scalar.cmpi .eq c8_i32_475 c0_i32_476
  let c1_i32_477 : BitVec 32 := 1#32
  let v628 : BitVec 32 := Scalar.select v627 c1_i32_477 c8_i32_475
  let v629 : BitVec 32 := Scalar.remsi v626 v628
  let c0_i32_479 : BitVec 32 := 0#32
  let v631 : BitVec 1 := Scalar.cmpi .slt v629 c0_i32_479
  let c0_i32_480 : BitVec 32 := 0#32
  let v632 : BitVec 1 := Scalar.cmpi .slt v628 c0_i32_480
  let v633 : BitVec 1 := Scalar.xori v631 v632
  let c0_i32_478 : BitVec 32 := 0#32
  let v630 : BitVec 1 := Scalar.cmpi .ne v629 c0_i32_478
  let v634 : BitVec 1 := Scalar.andi v633 v630
  let v635 : BitVec 32 := Scalar.addi v629 v628
  let v636 : BitVec 32 := Scalar.select v634 v635 v629
  let c512_i32_501 : BitVec 32 := 512#32
  let v659 : BitVec 32 := Scalar.muli v636 c512_i32_501
  let v660 : Index := Scalar.indexCast v659
  let c0_502 : Index := 0#32
  ![v660.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Slots.lean ====
/-
# The memory the kernel works in

Names for the kernel's buffers, the slots its three slotted scratch buffers are cut into, the semaphore of each slot, and the
two neighbour maps of the eight devices. A slot is written through its squeezed window and read through the whole buffer at
the window's rectangle; the general fact relating the two is here.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Transfers

@[expose] public section

noncomputable section

/-! ## A slot written through its squeezed window -/

namespace Cert.SlotFacts

open Idealize.ShloMosaic

variable {sig : RefSig} {κ : Kind} {sp : Space} {s s' : Shape} {e : EltTy} {Val : EltTy → Type}

/-- After the squeezed window of a rectangle is written in full, the whole buffer read at that rectangle shows the payload,
    re-indexed by row-major position. -/
theorem readAt_write_squeezed (M : Memref sig κ sp s e) (r : Rect s) (hr : ∀ a, r.stride a = 1) (hq : r.shape.Squeezes s')
    (f : M.view.ty.Contents Val) (w : s'.Idx → Val e) :
    M.view.readAt Val r.toLoadRect (((M.slice r hr).squeeze s' hq).view.write Val f w Finset.univ)
      = fun x => w ((Shape.reshapeEquiv hq.numel_eq).symm x) := by
  show (M.view.slice r).read Val (((M.view.slice r).reshape s' hq.numel_eq).write Val f w Finset.univ) = _
  rw [View.write_reshape_univ, View.read_write_univ]

/-- What the squeezed window of a rectangle reads is what the whole buffer shows at that rectangle, re-indexed. -/
theorem read_squeezed (M : Memref sig κ sp s e) (r : Rect s) (hr : ∀ a, r.stride a = 1) (hq : r.shape.Squeezes s')
    (f : M.view.ty.Contents Val) :
    ((M.slice r hr).squeeze s' hq).view.read Val f = fun x => M.view.readAt Val r.toLoadRect f (Shape.reshapeEquiv hq.numel_eq x) := rfl

/-- A store through the whole buffer at a rectangle is read back there. -/
theorem readAt_write_access (M : Memref sig κ sp s e) (r : Rect s) (f : M.view.ty.Contents Val) (w : r.shape.Idx → Val e) :
    M.view.readAt Val r.toLoadRect ((M.access r).write Val f w Finset.univ) = w :=
  View.read_write_univ (v := M.access r) f w

end Cert.SlotFacts

namespace Cert.KernelProof

open Cert.KernelIdeal Cert.KernelIdeal.Gen
open Idealize.ShloMosaic Idealize.ShloMosaic.TcCoe

/-! ## Buffers -/

abbrev xM : Memref sig .tc .vmem S512x4096 .f32 := Memref.whole cc0_stg0_0
abbrev gM : Memref sig .tc .hbm S4096x2048 .f32 := Memref.whole main_arg1
abbrev sxM : Memref sig .tc .smem S1 .f32 := Memref.whole cc0_stg1_0
abbrev swM : Memref sig .tc .smem S1 .f32 := Memref.whole cc0_stg2_0
abbrev oM : Memref sig .tc .vmem S4096x256 .f32 := Memref.whole cc0_stg3_0
abbrev qM : Memref sig .tc .vmem S512x4096 .fp8e4m3 := Memref.whole cc0_scratch0
abbrev wM : Memref sig .tc .vmem S6x4096x256 .f32 := Memref.whole cc0_scratch1
abbrev yM : Memref sig .tc .vmem S7x512x256 .bf16 := Memref.whole cc0_scratch2
abbrev rM : Memref sig .tc .vmem S7x512x256 .bf16 := Memref.whole cc0_scratch3

/-! ## Slots -/

/-- A fetch slot lies within its buffer, -/
theorem wInb (k : Fin 6) : ∀ a, (![k.val, 0, 0] : Fin 3 → Nat) a + S1x4096x256.size a ≤ S6x4096x256.size a := by revert k; decide
/-- a product's slot within its own, -/
theorem yInb (i : Fin 7) : ∀ a, (![i.val, 0, 0] : Fin 3 → Nat) a + S1x512x256.size a ≤ S7x512x256.size a := by revert i; decide
/-- a fetch slot's semaphore within the array of them, -/
theorem wsInb (k : Fin 6) : ∀ a, (![k.val] : Fin 1 → Nat) a + S1.size a ≤ S6.size a := by revert k; decide
/-- and a product's semaphore within its array. -/
theorem ysInb (i : Fin 7) : ∀ a, (![i.val] : Fin 1 → Nat) a + S1.size a ≤ S7.size a := by revert i; decide

/-- Slot `k` of the buffer of fetched column blocks, as a rectangle. -/
abbrev wRect (k : Fin 6) : Rect S6x4096x256 := Rect.unit (s := S6x4096x256) ![k.val, 0, 0] S1x4096x256.size (wInb k)
/-- Slot `i` of the outgoing (or incoming) products, as a rectangle. -/
abbrev yRect (i : Fin 7) : Rect S7x512x256 := Rect.unit (s := S7x512x256) ![i.val, 0, 0] S1x512x256.size (yInb i)

abbrev wSlot (k : Fin 6) : Memref sig .tc .vmem S4096x256 .f32 :=
  (wM.slice (wRect k) (fun _ => rfl)).squeeze S4096x256 squeezes_S1x4096x256_S4096x256
abbrev ySlot (i : Fin 7) : Memref sig .tc .vmem S512x256 .bf16 :=
  (yM.slice (yRect i) (fun _ => rfl)).squeeze S512x256 squeezes_S1x512x256_S512x256
abbrev rSlot (i : Fin 7) : Memref sig .tc .vmem S512x256 .bf16 :=
  (rM.slice (yRect i) (fun _ => rfl)).squeeze S512x256 squeezes_S1x512x256_S512x256

/-- The column block of the second matrix that device `c` multiplies by at step `t`. -/
abbrev gBlock (c : Dev nD) (t : Fin 8) : Memref sig .tc .hbm S4096x256 .f32 :=
  gM.slice (Rect.unit (s := S4096x2048) (k0_off1 c (BitVec.ofNat 32 t.val)) S4096x256.size (k0_off1_inb c t)) (fun _ => rfl)

/-! ## Semaphores -/

abbrev barS : Sem sig := (SemArray.scalar (sig.barrier 0 rfl) : Sems sig S_).sem
abbrev fetchS (k : Fin 6) : DmaSem sig :=
  (((cc0_scratch4 : DmaSems sig S6).slice (Rect.unit (s := S6) ![k.val] S1.size (wsInb k))).squeeze S_ squeezes_S1_S_).sem
abbrev sendS (i : Fin 7) : DmaSem sig :=
  (((cc0_scratch5 : DmaSems sig S7).slice (Rect.unit (s := S7) ![i.val] S1.size (ysInb i))).squeeze S_ squeezes_S1_S_).sem
abbrev recvS (i : Fin 7) : DmaSem sig :=
  (((cc0_scratch6 : DmaSems sig S7).slice (Rect.unit (s := S7) ![i.val] S1.size (ysInb i))).squeeze S_ squeezes_S1_S_).sem

/-- The number of a fetch semaphore, -/
theorem fetchS_val (k : Fin 6) : (fetchS k).val = 4 + k.val := by revert k; decide
/-- of a departure semaphore, -/
theorem sendS_val (i : Fin 7) : (sendS i).val = 10 + i.val := by revert i; decide
/-- and of an arrival semaphore. -/
theorem recvS_val (i : Fin 7) : (recvS i).val = 17 + i.val := by revert i; decide

/-- The units one product's arrival adds to a semaphore; those one fetched column block's arrival adds. -/
abbrev N : ℕ := (rSlot 0).view.dmaCredit
abbrev NW : ℕ := (wSlot 0).view.dmaCredit

/-- A product's copy is worth something. -/
theorem N_pos : 0 < N := View.dmaCredit_pos _ (by decide)
/-- So is a block's. -/
theorem NW_pos : 0 < NW := View.dmaCredit_pos _ (by decide)
/-- Landing in an incoming slot is worth one product; -/
theorem credit_r (i : Fin 7) : (rSlot i).view.dmaCredit = N := rfl
/-- so is leaving an outgoing one. -/
theorem credit_y (i : Fin 7) : (ySlot i).view.dmaCredit = N := rfl
/-- Landing in a fetch slot is worth one block. -/
theorem credit_w (k : Fin 6) : (wSlot k).view.dmaCredit = NW := rfl

/-! ## The devices -/

set_option backward.proofsInPublic true in
/-- The device `i + 1` places after `c`, around the eight. -/
def nx (i : Fin 7) (c : Dev nD) : Dev nD := ⟨(c.val + (i.val + 1)) % 8, Nat.mod_lt _ (by decide)⟩

/-- Going `7 - i` places on undoes going `i + 1` places on; -/
theorem nx_rev (i : Fin 7) (c : Dev nD) : nx i.rev (nx i c) = c := by revert i c; decide
/-- and the other way round. -/
theorem nx_of_rev (i : Fin 7) (c : Dev nD) : nx i (nx i.rev c) = c := by revert i c; decide

/-- The device `i + 1` places before `c`: the one whose product device `c` receives into slot `i`. -/
abbrev pv (i : Fin 7) (c : Dev nD) : Dev nD := nx i.rev c

/-- Moving every device `i + 1` places on, as a permutation. -/
def turn (i : Fin 7) : Dev nD ≃ Dev nD := ⟨nx i, nx i.rev, nx_rev i, nx_of_rev i⟩

/-- Two devices have different successors. -/
theorem nx_inj (i : Fin 7) {a b : Dev nD} (h : nx i a = nx i b) : a = b := (turn i).injective h

/-- The device that signal 0 goes to. -/
theorem dev1_eq (c : Dev nD) : (⟨k0_dev1 c, k0_dev1_lt c⟩ : Dev nD) = nx 0 c := by revert c; decide +kernel
/-- The device that signal 1 goes to. -/
theorem dev2_eq (c : Dev nD) : (⟨k0_dev2 c, k0_dev2_lt c⟩ : Dev nD) = nx 1 c := by revert c; decide +kernel
/-- The device that signal 2 goes to. -/
theorem dev3_eq (c : Dev nD) : (⟨k0_dev3 c, k0_dev3_lt c⟩ : Dev nD) = nx 2 c := by revert c; decide +kernel
/-- The device that signal 3 goes to. -/
theorem dev4_eq (c : Dev nD) : (⟨k0_dev4 c, k0_dev4_lt c⟩ : Dev nD) = nx 3 c := by revert c; decide +kernel
/-- The device that signal 4 goes to. -/
theorem dev5_eq (c : Dev nD) : (⟨k0_dev5 c, k0_dev5_lt c⟩ : Dev nD) = nx 4 c := by revert c; decide +kernel
/-- The device that signal 5 goes to. -/
theorem dev6_eq (c : Dev nD) : (⟨k0_dev6 c, k0_dev6_lt c⟩ : Dev nD) = nx 5 c := by revert c; decide +kernel
/-- The device that signal 6 goes to. -/
theorem dev7_eq (c : Dev nD) : (⟨k0_dev7 c, k0_dev7_lt c⟩ : Dev nD) = nx 6 c := by revert c; decide +kernel
/-- The device that product 0 is sent to. -/
theorem dev8_eq (c : Dev nD) : (⟨k0_dev8 c, k0_dev8_lt c⟩ : Dev nD) = nx 0 c := by revert c; decide +kernel
/-- The device that product 1 is sent to. -/
theorem dev9_eq (c : Dev nD) : (⟨k0_dev9 c, k0_dev9_lt c⟩ : Dev nD) = nx 1 c := by revert c; decide +kernel
/-- The device that product 2 is sent to. -/
theorem dev10_eq (c : Dev nD) : (⟨k0_dev10 c, k0_dev10_lt c⟩ : Dev nD) = nx 2 c := by revert c; decide +kernel
/-- The device that product 3 is sent to. -/
theorem dev11_eq (c : Dev nD) : (⟨k0_dev11 c, k0_dev11_lt c⟩ : Dev nD) = nx 3 c := by revert c; decide +kernel
/-- The device that product 4 is sent to. -/
theorem dev12_eq (c : Dev nD) : (⟨k0_dev12 c, k0_dev12_lt c⟩ : Dev nD) = nx 4 c := by revert c; decide +kernel
/-- The device that product 5 is sent to. -/
theorem dev13_eq (c : Dev nD) : (⟨k0_dev13 c, k0_dev13_lt c⟩ : Dev nD) = nx 5 c := by revert c; decide +kernel
/-- The device that product 6 is sent to. -/
theorem dev14_eq (c : Dev nD) : (⟨k0_dev14 c, k0_dev14_lt c⟩ : Dev nD) = nx 6 c := by revert c; decide +kernel

/-- Where the column block of step `t` starts: at the block of the device `t + 1` places on. -/
theorem off1_eq (c : Dev nD) (t : Fin 8) : k0_off1 c (BitVec.ofNat 32 t.val) = ![0, 256 * ((c.val + t.val + 1) % 8)] := by
  revert c t; decide +kernel
/-- Where the product received into slot `i` is put: the rows of the device it came from. -/
theorem off3_eq (c : Dev nD) (i : Fin 7) : k0_off3 c (BitVec.ofNat 32 (1 + i.val)) = ![512 * (pv i c).val, 0] := by
  revert c i; decide +kernel

/-! ## The slots make up their buffers -/

section Cover

/-- A fetch slot's squeezed window covers its rectangle; -/
theorem wSlot_set (k : Fin 6) : (wSlot k).view.set = (wRect k).set := by
  show ((View.whole cc0_scratch1).slice (wRect k) |>.reshape S4096x256 _).set = _
  rw [View.set_reshape, View.set_slice]; exact Finset.map_refl
/-- so does an outgoing slot's, -/
theorem ySlot_set (i : Fin 7) : (ySlot i).view.set = (yRect i).set := by
  show ((View.whole cc0_scratch2).slice (yRect i) |>.reshape S512x256 _).set = _
  rw [View.set_reshape, View.set_slice]; exact Finset.map_refl
/-- and an incoming slot's. -/
theorem rSlot_set (i : Fin 7) : (rSlot i).view.set = (yRect i).set := by
  show ((View.whole cc0_scratch3).slice (yRect i) |>.reshape S512x256 _).set = _
  rw [View.set_reshape, View.set_slice]; exact Finset.map_refl

/-- Two different slots share no element; -/
theorem wRect_disjoint (k k' : Fin 6) (h : k ≠ k') : Disjoint (wRect k).set (wRect k').set :=
  Ring.lead_disjoint (s := S6x4096x256) 0 1 (fun k : Fin 6 => ![k.val, 0, 0]) S1x4096x256.size wInb
    (fun k => (Nat.one_mul _).symm) rfl k k' h
/-- Two slots of a product buffer do not meet. -/
theorem yRect_disjoint (k k' : Fin 7) (h : k ≠ k') : Disjoint (yRect k).set (yRect k').set :=
  Ring.lead_disjoint (s := S7x512x256) 0 1 (fun k : Fin 7 => ![k.val, 0, 0]) S1x512x256.size yInb
    (fun k => (Nat.one_mul _).symm) rfl k k' h
/-- and the slots together are the buffer. -/
theorem wRect_cover : Finset.univ.biUnion (fun k => (wRect k).set) = Finset.univ :=
  Ring.lead_cover (s := S6x4096x256) 0 1 (fun k : Fin 6 => ![k.val, 0, 0]) S1x4096x256.size wInb
    (fun k => (Nat.one_mul _).symm) (by decide) rfl (by decide) rfl
/-- The seven slots cover it. -/
theorem yRect_cover : Finset.univ.biUnion (fun k => (yRect k).set) = Finset.univ :=
  Ring.lead_cover (s := S7x512x256) 0 1 (fun k : Fin 7 => ![k.val, 0, 0]) S1x512x256.size yInb
    (fun k => (Nat.one_mul _).symm) (by decide) rfl (by decide) rfl

end Cover

end Cert.KernelProof

end
-- ==== Proof.Protocol.lean ====
/-
# The protocol of one all-to-all product

Each of the eight devices multiplies its rows by one column block per destination, sends seven of the eight products away and
keeps one. Before anything arrives, every device tells the seven others — one unit on each one's barrier — that the slot the
other is to write is free. What is stated here: the values the buffers hold, one round of duties per semaphore (the barrier's
seven units, each product's departure and arrival), what each device owes at the start, and the order waits are taken in.
-/
module

public import proofs.«01_k».proof.Proof.Slots

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the staging pipeline's, the rounds of this protocol, the counters of the local copies -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb

instance ER_landsIn : (ER (F := F)).LandsIn (upEmb : UEmb _ 𝕄) := by unfold ER; infer_instance

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-! ## Contents -/

/-- Device `c`'s rows of the first matrix, as staged; its two scales. -/
def xv (c : Dev nD) : (cc0_stg0_0 : Ref sig .tc).ty.Contents (Elt F) :=
  (win0_0.blk (0 : Fin 1)).view.read (Elt F) ((s₀ m ρ).mem ((c : Thread nD τ).loc main_arg0))
def sxv (c : Dev nD) : (cc0_stg1_0 : Ref sig .tc).ty.Contents (Elt F) :=
  (win0_1.blk (0 : Fin 1)).view.read (Elt F) ((s₀ m ρ).mem ((c : Thread nD τ).loc main_arg2))
def swv (c : Dev nD) : (cc0_stg2_0 : Ref sig .tc).ty.Contents (Elt F) :=
  (win0_2.blk (0 : Fin 1)).view.read (Elt F) ((s₀ m ρ).mem ((c : Thread nD τ).loc main_arg3))

/-- The second matrix on device `c`. -/
def gv (c : Dev nD) : Buf (Elt F) ((c : Thread nD τ).loc main_arg1) := m ((c : Thread nD τ).loc main_arg1)

abbrev oneRect : Rect S1 := Rect.unit (s := S1) ![0] S1.size inb_S1_S1_0
abbrev xRect : Rect S512x4096 := Rect.unit (s := S512x4096) ![0, 0] S512x4096.size inb_S512x4096_S512x4096_0_0

/-- The product of the two scales. -/
def sc (c : Dev nD) : F .f32 :=
  k0_pay1 ((sxM.access oneRect).read (Elt F) (sxv m ρ c) (Shape.Idx.first (numel1_S1.symm ▸ Nat.one_pos)))
    ((swM.access oneRect).read (Elt F) (swv m ρ c) (Shape.Idx.first (numel1_S1.symm ▸ Nat.one_pos)))

/-- The rows, rounded. -/
def x8 (c : Dev nD) : Vec F S512x4096 .fp8e4m3 := k0_pay2 (xM.view.readAt (Elt F) xRect.toLoadRect (xv m ρ c))

/-- The column block fetched for step `t`. -/
def wv (c : Dev nD) (t : Fin 8) : Vec F S1x4096x256 .f32 := fun x =>
  (gBlock c t).view.read (Elt F) (gv m c) ((Shape.reshapeEquiv squeezes_S1x4096x256_S4096x256.numel_eq).symm x)

/-- The product device `c` sends to the device `i + 1` places on. -/
def yv (c : Dev nD) (i : Fin 7) : Vec F S1x512x256 .bf16 := k0_pay3 (sc m ρ c) (x8 m ρ c) (wv m c i.castSucc)

/-- The product device `c` keeps. -/
def own (c : Dev nD) : Vec F S512x256 .f32 := k0_pay11 (sc m ρ c) (x8 m ρ c) (wv m c 7)

set_option backward.proofsInPublic true in
/-- The slot through which device `c` receives from device `j`. -/
def gap (j c : Dev nD) : Fin 7 := ⟨((c.val + 15 - j.val) % 8) % 7, Nat.mod_lt _ (by decide)⟩
/-- The slot between a device and its predecessor number `i` is slot `i`. -/
theorem gap_pv (i : Fin 7) (c : Dev nD) : gap (pv i c) c = i := by revert i c; decide
/-- No device is its own predecessor. -/
theorem pv_ne (i : Fin 7) (c : Dev nD) : pv i c ≠ c := by revert i c; decide
/-- Going back by the slot between `j` and `c` leads from `c` to `j`. -/
theorem pv_gap (j c : Dev nD) (h : j ≠ c) : pv (gap j c) c = j := by revert j c; decide

/-- The rows of device `j` in device `c`'s result: its own product, or the one received from `j`. -/
def blk (c j : Dev nD) : Vec F S512x256 .f32 := if j = c then own m ρ c else k0_pay12 (yv m ρ j (gap j c))

/-- A device's own rows hold the product it keeps. -/
theorem blk_own (c : Dev nD) : blk m ρ c c = own m ρ c := if_pos rfl
/-- A predecessor's rows hold the product received from it, widened. -/
theorem blk_pv (c : Dev nD) (i : Fin 7) : blk m ρ c (pv i c) = k0_pay12 (yv m ρ (pv i c) i) := by
  unfold blk; rw [if_neg (pv_ne i c), gap_pv]

/-! ## What the slots hold -/

/-- Slot `i` of the outgoing products, of the incoming ones, slot `k` of the fetched blocks: at contents `f`. -/
def yPts (c : Dev nD) (i : Fin 7) (f : Buf (Elt F) ((c : Thread nD τ).loc cc0_scratch2)) : sProp 𝕄 :=
  (c : Thread nD τ).loc cc0_scratch2 ↦[(yRect i).set]{fullShare} f
def rPts (c : Dev nD) (i : Fin 7) (f : Buf (Elt F) ((c : Thread nD τ).loc cc0_scratch3)) : sProp 𝕄 :=
  (c : Thread nD τ).loc cc0_scratch3 ↦[(yRect i).set]{fullShare} f
def wPts (c : Dev nD) (k : Fin 6) (f : Buf (Elt F) ((c : Thread nD τ).loc cc0_scratch1)) : sProp 𝕄 :=
  (c : Thread nD τ).loc cc0_scratch1 ↦[(wRect k).set]{fullShare} f

omit [FloatOps F] in
instance yPts_storable (c : Dev nD) (i) (f) : BI.Storable (upEmb : UEmb _ 𝕄) (yPts (F := F) c i f) := by unfold yPts; infer_instance
omit [FloatOps F] in
instance rPts_storable (c : Dev nD) (i) (f) : BI.Storable (upEmb : UEmb _ 𝕄) (rPts (F := F) c i f) := by unfold rPts; infer_instance

/-- The slot is there, whatever it holds. -/
def yAny (c : Dev nD) (i : Fin 7) : sProp 𝕄 := iprop(∃ f, yPts c i f)
def rAny (c : Dev nD) (i : Fin 7) : sProp 𝕄 := iprop(∃ f, rPts c i f)
def wAny (c : Dev nD) (k : Fin 6) : sProp 𝕄 := iprop(∃ f, wPts c k f)

/-- The slot holds the value. -/
def yHas (c : Dev nD) (i : Fin 7) : sProp 𝕄 := iprop(∃ f, yPts c i f ∗ ⌜yM.view.readAt (Elt F) (yRect i).toLoadRect f = yv m ρ c i⌝)
def rHas (c : Dev nD) (i : Fin 7) : sProp 𝕄 := iprop(∃ f, rPts c i f ∗ ⌜rM.view.readAt (Elt F) (yRect i).toLoadRect f = yv m ρ (pv i c) i⌝)
def wHas (c : Dev nD) (k : Fin 6) (t : Fin 8) : sProp 𝕄 := iprop(∃ f, wPts c k f ∗ ⌜wM.view.readAt (Elt F) (wRect k).toLoadRect f = wv m c t⌝)

omit [FloatOps F] in
instance yAny_storable (c : Dev nD) (i) : BI.Storable (upEmb : UEmb _ 𝕄) (yAny (F := F) c i) := by unfold yAny; infer_instance
omit [FloatOps F] in
instance rAny_storable (c : Dev nD) (i) : BI.Storable (upEmb : UEmb _ 𝕄) (rAny (F := F) c i) := by unfold rAny; infer_instance
instance rHas_storable (c : Dev nD) (i) : BI.Storable (upEmb : UEmb _ 𝕄) (rHas m ρ c i) := by unfold rHas; infer_instance

/-! ## The cells -/

/-- A device's cells: its barrier, the departure of each product, the arrival of each. -/
abbrev CI : Type := Unit ⊕ (Fin 7 ⊕ Fin 7)

abbrev csem : CI → SemLoc sig
  | .inl _ => .reg barS
  | .inr (.inl i) => .dma (sendS i)
  | .inr (.inr i) => .dma (recvS i)

abbrev kcell (ck : Dev nD × CI) : GSem nD τ sig := ((ck.1 : Thread nD τ), csem ck.2)
abbrev barCell (c : Dev nD) : GSem nD τ sig := kcell (c, .inl ())
abbrev sendCell (c : Dev nD) (i : Fin 7) : GSem nD τ sig := kcell (c, .inr (.inl i))
abbrev recvCell (c : Dev nD) (i : Fin 7) : GSem nD τ sig := kcell (c, .inr (.inr i))

set_option backward.proofsInPublic true in
/-- Which of the cells a semaphore is, if any. -/
def role : SemLoc sig → Option CI
  | .reg s => if s = barS then some (.inl ()) else none
  | .dma q => if h : 10 ≤ q.val ∧ q.val < 17 then some (.inr (.inl ⟨q.val - 10, by omega⟩))
      else if h' : 17 ≤ q.val ∧ q.val < 24 then some (.inr (.inr ⟨q.val - 17, by omega⟩)) else none

/-- A semaphore of the protocol plays the role it was named for. -/
theorem role_csem (k : CI) : role (csem k) = some k := by revert k; decide
/-- A fetch semaphore plays none. -/
theorem role_fetch (k : Fin 6) : role (.dma (fetchS k)) = none := by revert k; decide

/-! ## The schedule -/

/-- What the signal of duty `p` hands device `c`: the incoming slot `c` is to write, on the device that far on. -/
def barPay (c : Dev nD) (p : Fin 7) : sProp 𝕄 := rAny (nx p.rev c) p.rev

omit [FloatOps F] in
instance barPay_storable (c : Dev nD) (p) : BI.Storable (upEmb : UEmb _ 𝕄) (barPay (F := F) c p) := by unfold barPay; infer_instance

def dutiesOf : Option CI → Finset (Fin 7)
  | none => ∅
  | some (.inl _) => Finset.univ
  | some (.inr _) => {0}

def amountOf : Option CI → ℕ
  | some (.inr _) => N
  | _ => 1

def payOf (c : Dev nD) (d : Fin 7) : Option CI → sProp 𝕄
  | none => iprop(emp)
  | some (.inl _) => barPay c d
  | some (.inr (.inl i)) => yAny c i
  | some (.inr (.inr i)) => rHas m ρ c i

/-- One round: the barrier has seven duties of one unit, one per other device; a product's departure or arrival has one duty, of
    the product's credit. -/
def rd : Rounds.Schedule (GSem nD τ sig) (Fin 7) 𝕄 where
  duties g r := if r = 0 ∧ g.1.2 = .tc then dutiesOf (role g.2) else ∅
  unitless _ := False
  amount g _ _ := amountOf (role g.2)
  payload g _ d := payOf m ρ g.1.1 d (role g.2)
  amount_pos g _ _ _ := by
    rcases role g.2 with _ | (_ | _)
    · exact Nat.one_pos
    · exact Nat.one_pos
    · exact N_pos

instance rd_payload_storable (g : GSem nD τ sig) (r : ℕ) (d : Fin 7) :
    BI.Storable (upEmb : UEmb _ 𝕄) ((rd (F := F) m ρ).payload g r d) := by
  show BI.Storable upEmb (payOf m ρ g.1.1 d (role g.2))
  rcases role g.2 with _ | (_ | (_ | _)) <;> unfold payOf <;> infer_instance

section Sched
variable (c : Dev nD)

/-- The duties of a cell's one round are those of its role. -/
theorem duties_of (k : CI) : (rd (F := F) m ρ).duties (kcell (c, k)) 0 = dutiesOf (some k) := by
  dsimp only [rd]; rw [if_pos ⟨rfl, rfl⟩, role_csem]
/-- So are their amounts, -/
theorem amount_of (k : CI) (d : Fin 7) : (rd (F := F) m ρ).amount (kcell (c, k)) 0 d = amountOf (some k) := by
  dsimp only [rd]; rw [role_csem]
/-- and what they hand over. -/
theorem payload_of (k : CI) (d : Fin 7) : (rd (F := F) m ρ).payload (kcell (c, k)) 0 d = payOf m ρ c d (some k) := by
  dsimp only [rd]; rw [role_csem]
/-- No cell has duties after its first round. -/
theorem duties_later (g : GSem nD τ sig) : ∀ r, 1 ≤ r → (rd (F := F) m ρ).duties g r = ∅ :=
  fun r hr => by dsimp only [rd]; rw [if_neg fun h => by omega]

/-- A barrier has seven duties. -/
theorem duties_bar : (rd (F := F) m ρ).duties (barCell c) 0 = Finset.univ := duties_of m ρ c _
/-- A departure or an arrival has one. -/
theorem duties_xfer (k : Fin 7 ⊕ Fin 7) : (rd (F := F) m ρ).duties (kcell (c, .inr k)) 0 = {0} := duties_of m ρ c _
/-- A barrier's duties are worth one unit each. -/
theorem amount_bar (d : Fin 7) : (rd (F := F) m ρ).amount (barCell c) 0 d = 1 := amount_of m ρ c _ d
/-- A departure or an arrival is worth the bytes of one product. -/
theorem amount_xfer (k : Fin 7 ⊕ Fin 7) (d : Fin 7) : (rd (F := F) m ρ).amount (kcell (c, .inr k)) 0 d = N := amount_of m ρ c _ d
/-- A barrier's round is worth seven units. -/
theorem expect_bar : (rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
/-- A departure's or an arrival's round is worth the bytes of one product. -/
theorem expect_xfer (k : Fin 7 ⊕ Fin 7) : (rd (F := F) m ρ).expect (kcell (c, .inr k)) 0 = N := by
  unfold Schedule.expect Schedule.amountOf; rw [duties_xfer, Finset.sum_singleton, amount_xfer]

/-- A wait for the whole barrier hands over the seven slots that its device is to write on the others. -/
theorem rest_bar : bigSep ((rd (F := F) m ρ).duties (barCell c) 0 \ ∅) (fun d => (rd (F := F) m ρ).payload (barCell c) 0 d)
    = bigSep Finset.univ (fun d => barPay c d) := by
  rw [Finset.sdiff_empty, duties_bar]; exact bigSep_congr fun d _ => payload_of m ρ c _ d
/-- A wait for a departure hands the outgoing slot back. -/
theorem rest_send (i : Fin 7) : bigSep ((rd (F := F) m ρ).duties (sendCell c i) 0 \ ∅) (fun d => (rd (F := F) m ρ).payload (sendCell c i) 0 d) = yAny c i := by
  rw [Finset.sdiff_empty, duties_xfer, bigSep_singleton, payload_of]; rfl
/-- A wait for an arrival hands over the incoming slot with the sender's product in it. -/
theorem rest_recv (i : Fin 7) : bigSep ((rd (F := F) m ρ).duties (recvCell c i) 0 \ ∅) (fun d => (rd (F := F) m ρ).payload (recvCell c i) 0 d) = rHas m ρ c i := by
  rw [Finset.sdiff_empty, duties_xfer, bigSep_singleton, payload_of]; rfl

end Sched

/-! ## What each device owes; the order of waits -/

/-- The arrivals device `c` still owes when it has sent the products below `k`; the barrier units when it has signalled the
    first `k`. -/
def owedS (c : Dev nD) (k : ℕ) : CellTallies nD τ sig Unit :=
  ∑ i ∈ Finset.univ.filter (fun i : Fin 7 => k ≤ i.val), tallyAt (recvCell (nx i c) i) () N
def owedB (c : Dev nD) (k : ℕ) : CellTallies nD τ sig Unit :=
  ∑ p ∈ Finset.univ.filter (fun p : Fin 7 => k ≤ p.val), tallyAt (barCell (nx p c)) () 1
def O₀ (c : Dev nD) : CellTallies nD τ sig Unit := owedS c 0 + owedB c 0

/-- The numbers from `i` on are `i` and those from `i + 1` on. -/
theorem filter_step (i : Fin 7) : Finset.univ.filter (fun j : Fin 7 => i.val ≤ j.val)
    = insert i (Finset.univ.filter (fun j : Fin 7 => i.val + 1 ≤ j.val)) := by revert i; decide
/-- There is none from seven on. -/
theorem filter_end : Finset.univ.filter (fun j : Fin 7 => 7 ≤ j.val) = ∅ := by decide

/-- The products still to be sent from `i` on: product `i`, and those from `i + 1` on. -/
theorem owedS_step (c : Dev nD) (i : Fin 7) : owedS c i.val = owedS c (i.val + 1) + tallyAt (recvCell (nx i c) i) () N := by
  unfold owedS; rw [filter_step i, Finset.sum_insert (by simp), add_comm]
/-- The barrier signals still to be given from `p` on: signal `p`, and those from `p + 1` on. -/
theorem owedB_step (c : Dev nD) (p : Fin 7) : owedB c p.val = owedB c (p.val + 1) + tallyAt (barCell (nx p c)) () 1 := by
  unfold owedB; rw [filter_step p, Finset.sum_insert (by simp), add_comm]
/-- After seven products nothing is owed to an arrival. -/
theorem owedS_end (c : Dev nD) : owedS c 7 = 0 := by unfold owedS; rw [filter_end, Finset.sum_empty]
/-- After seven signals nothing is owed to a barrier. -/
theorem owedB_end (c : Dev nD) : owedB c 7 = 0 := by unfold owedB; rw [filter_end, Finset.sum_empty]

/-- A sum of tallies at cells is positive only at one of them. -/
theorem sum_tally_pos {ι : Type} (S : Finset ι) (f : ι → GSem nD τ sig) (n : ℕ) {g : GSem nD τ sig} {u : Unit}
    (h : 0 < (∑ i ∈ S, tallyAt (f i) () n : CellTallies nD τ sig Unit) g u) : ∃ i, g = f i := by
  classical
  induction S using Finset.induction_on with
  | empty => exact absurd h (Nat.lt_irrefl 0)
  | insert a S ha ih =>
    rw [Finset.sum_insert ha, Pi.add_apply, Finsupp.add_apply, tallyAt_apply] at h
    by_cases hg : g = f a
    · exact ⟨a, hg⟩
    · rw [if_neg (fun h' => hg h'.1), Nat.zero_add] at h; exact ih h

/-- What is owed for products is owed to arrivals. -/
theorem owedS_pos {c : Dev nD} {k : ℕ} {g : GSem nD τ sig} {u : Unit} (h : 0 < owedS c k g u) : ∃ e i, g = recvCell e i := by
  obtain ⟨i, hi⟩ := sum_tally_pos _ _ _ h; exact ⟨_, _, hi⟩
/-- What is owed for signals is owed to barriers. -/
theorem owedB_pos {c : Dev nD} {k : ℕ} {g : GSem nD τ sig} {u : Unit} (h : 0 < owedB c k g u) : ∃ e, g = barCell e := by
  obtain ⟨i, hi⟩ := sum_tally_pos _ _ _ h; exact ⟨_, hi⟩
/-- What a device owes at the start is owed to arrivals and barriers. -/
theorem O₀_pos {c : Dev nD} {g : GSem nD τ sig} {u : Unit} (h : 0 < O₀ c g u) : (∃ e i, g = recvCell e i) ∨ ∃ e, g = barCell e := by
  unfold O₀ at h; rw [Pi.add_apply, Finsupp.add_apply] at h
  rcases Nat.eq_zero_or_pos (owedS c 0 g u) with h0 | h0
  · rw [h0, Nat.zero_add] at h; exact .inr (owedB_pos h)
  · exact .inl (owedS_pos h0)

def L (g : GSem nD τ sig) : Finset Unit := if g.1.2 = .tc then {()} else ∅

def levOf : Option CI → ℕ
  | some (.inl _) => 1
  | some (.inr (.inr _)) => 2
  | _ => 0
/-- A barrier comes before the arrivals; everything else comes before both. -/
def lv (g : GSem nD τ sig) (_ : Unit) : ℕ := levOf (role g.2)

/-- The level of a cell is that of its role. -/
theorem lv_of (c : Dev nD) (k : CI) (u : Unit) : lv (kcell (c, k)) u = levOf (some k) := by unfold lv; rw [role_csem]

/-- A cell that is not on a TensorCore has no level. -/
theorem L_of_ne (g : GSem nD τ sig) (h : g.1.2 ≠ .tc) : L g = ∅ := if_neg h
/-- A cell on a TensorCore has one. -/
theorem L_tc (c : Dev nD) (sm : SemLoc sig) : L ((c : Thread nD τ), sm) = {()} := if_pos rfl

omit [FloatOps F] in
/-- A wait at level zero is allowed while only barriers and arrivals are owed; -/
theorem mayWait_low (c : Dev nD) (sm : SemLoc sig) (hs : levOf (role sm) = 0) (O : CellTallies nD τ sig Unit)
    (hO : ∀ g u, 0 < O g u → (∃ e i, g = recvCell e i) ∨ ∃ e, g = barCell e) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => by rcases hO g u hg with ⟨e, i, rfl⟩ | ⟨e, rfl⟩ <;> exact Finset.mem_singleton_self _)
    (fun p hp => by rw [Finset.mem_singleton.mp hp]; exact le_of_eq hs)
    (fun g u hg => by
      rcases hO g u hg with ⟨e, i, rfl⟩ | ⟨e, rfl⟩
      · rw [lv_of]; show 0 < 2; decide
      · rw [lv_of]; show 0 < 1; decide)

omit [FloatOps F] in
/-- and the barrier's wait while only arrivals are. -/
theorem mayWait_bar (c : Dev nD) : (levAts L lv : sProp 𝕄) ⊢ MayWait (c : Thread nD τ) (.reg barS) () (owedS c 0) :=
  MayOwe.of_cut (L := L) (lev := lv) 1 (fun p hp => by rw [Finset.mem_singleton.mp hp, L_tc]; exact Finset.mem_singleton_self _)
    (fun g u hg => by obtain ⟨e, i, rfl⟩ := owedS_pos hg; exact Finset.mem_singleton_self _)
    (fun p hp => by rw [Finset.mem_singleton.mp hp]; exact le_of_eq (lv_of c (.inl ()) ()))
    (fun g u hg => by obtain ⟨e, i, rfl⟩ := owedS_pos hg; rw [lv_of]; show 1 < 2; decide)

omit [FloatOps F] in
/-- A local copy's wait, while arrivals are owed. -/
theorem mayWait_fetch (c : Dev nD) (k : Fin 6) (n : ℕ) : (levAts L lv : sProp 𝕄) ⊢ MayWait (c : Thread nD τ) (.dma (fetchS k)) () (owedS c n) :=
  mayWait_low c _ (by rw [role_fetch]; rfl) _ (fun g u h => .inl (owedS_pos h))

/-! ## What a device's run starts from, beyond its buffers -/

/-- What every device knows of every cell: its invariant, that it has reached its one round; and the order of waits. -/
def recs (K : Dev nD × CI → ℕ) : sProp 𝕄 :=
  iprop(bigSep Finset.univ (fun ck => cellInv ER (rd m ρ) (K ck) (kcell ck))
    ∗ bigSep Finset.univ (fun ck : Dev nD × CI => reached ER (kcell ck) 0) ∗ levAts L lv)

instance recs_persistent (K : Dev nD × CI → ℕ) : BI.Persistent (recs m ρ K) := by unfold recs; infer_instance

/-- The records hold every cell's invariant, -/
theorem recs_inv (K : Dev nD × CI → ℕ) (ck : Dev nD × CI) : recs m ρ K ⊢ cellInv ER (rd m ρ) (K ck) (kcell ck) := by
  unfold recs; iintro ⟨H, -, -⟩
  have h : (bigSep Finset.univ fun ck => cellInv ER (rd m ρ) (K ck) (kcell ck)) ⊢ cellInv ER (rd m ρ) (K ck) (kcell ck) :=
    bigSep_elim (Finset.mem_univ ck)
  iapply h; iexact H
/-- the fact that its round has begun, -/
theorem recs_reached (K : Dev nD × CI → ℕ) (ck : Dev nD × CI) : recs m ρ K ⊢ reached ER (kcell ck) 0 := by
  unfold recs; iintro ⟨-, H, -⟩
  have h : (bigSep Finset.univ fun ck : Dev nD × CI => (reached ER (kcell ck) 0 : sProp 𝕄)) ⊢ reached ER (kcell ck) 0 :=
    bigSep_elim (Finset.mem_univ ck)
  iapply h; iexact H
/-- and the levels. -/
theorem recs_lev (K : Dev nD × CI → ℕ) : recs m ρ K ⊢ levAts L lv := by
  unfold recs; iintro ⟨-, -, H⟩; iexact H

/-- What the `p`-th signal spends: its duty on the barrier it raises. -/
def sigTok (c : Dev nD) (p : Fin 7) : sProp 𝕄 := dutyTok ER (barCell (nx p c)) 0 p
/-- What sending product `i` spends: its duties on both ends, and the sender's place at the departure. -/
def sendTok (c : Dev nD) (i : Fin 7) : sProp 𝕄 :=
  iprop(dutyTok ER (sendCell c i) 0 0 ∗ dutyTok ER (recvCell (nx i c) i) 0 0 ∗ atPos ER (sendCell c i) 0 ∅ 0)
/-- What waiting for a departure spends; -/
def sentTok (c : Dev nD) (i : Fin 7) : sProp 𝕄 := iprop(atPos ER (sendCell c i) 0 ∅ 0 ∗ cred (tallyAt (sendCell c i) () N))
/-- and for an arrival. -/
def recvTok (c : Dev nD) (i : Fin 7) : sProp 𝕄 := iprop(atPos ER (recvCell c i) 0 ∅ 0 ∗ cred (tallyAt (recvCell c i) () N))
/-- What the barrier's wait spends. -/
def barTok (c : Dev nD) : sProp 𝕄 := iprop(atPos ER (barCell c) 0 ∅ 0 ∗ cred (tallyAt (barCell c) () 7))

end Cert.KernelProof

end
-- ==== Proof.Steps.lean ====
/-
# The steps of the kernel's body

One theorem per kind of step the body takes — a signal, the barrier's wait, the start of a local fetch, a product into an
outgoing slot, its sending, the product kept, the wait for an incoming product with its store, the wait for a departure — each
for every slot and every continuation. They say what the step spends and what it hands on.
-/
module

public import proofs.«01_k».proof.Proof.Protocol

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

def 𝒱₀ : Variants := Variants.none

/-- What a device owes, whatever it has waited for. -/
def owing (c : Dev nD) (O : CellTallies nD τ sig Unit) : sProp 𝕄 := iprop(∃ W : Waits sig Unit, owes (c : Thread nD τ) O W)

/-- The share of the second matrix that the fetch of step `t` reads through. -/
def gTok (c : Dev nD) (t : Fin 8) : sProp 𝕄 := ((c : Thread nD τ).loc main_arg1) ↦{shareTok fullShare 8 t} gv m c

/-- A fetch slot at rest: no copy into it is under way. -/
def idle (c : Dev nD) (k : Fin 6) : sProp 𝕄 := iprop(wAny c k ∗ semVal ((c : Thread nD τ), SemLoc.dma (fetchS k)) 0)

/-- The fetch of step `t` into slot `k`, under way. -/
def fetching (c : Dev nD) (k : Fin 6) (t : Fin 8) : sProp 𝕄 :=
  iprop(∃ f : Buf (Elt F) ((c : Thread nD τ).loc cc0_scratch1),
    Transfers.Flight EC (c : Thread nD τ) (SemLoc.dma (fetchS k)) () NW
      iprop(((wSlot k).view.loc (c : Thread nD τ) ↦[(wRect k).set]{fullShare} (wSlot k).view.write (Elt F) f ((gBlock c t).view.read (Elt F) (gv m c)) Finset.univ)
        ∗ ((gBlock c t).view.loc (c : Thread nD τ) ↦[(gBlock c t).view.set]{shareTok fullShare 8 t} gv m c))
    ∗ (((c : Thread nD τ).loc main_arg1) ↦[Finset.univ \ (gBlock c t).view.set]{shareTok fullShare 8 t} gv m c))

/-- The buffer of rounded rows holds them. -/
def qHas (c : Dev nD) : sProp 𝕄 :=
  iprop(∃ f : Buf (Elt F) ((c : Thread nD τ).loc cc0_scratch0), (((c : Thread nD τ).loc cc0_scratch0) ↦{fullShare} f)
    ∗ ⌜qM.view.readAt (Elt F) xRect.toLoadRect f = x8 m ρ c⌝)

/-- A device's rows lie within the result. -/
theorem rowInb (j : Dev nD) : ∀ a, (![512 * j.val, 0] : Fin 2 → Nat) a + S512x256.size a ≤ S4096x256.size a := by revert j; decide
/-- The rows of the result that come from device `j`. -/
abbrev rowRect (j : Dev nD) : Rect S4096x256 := Rect.unit (s := S4096x256) ![512 * j.val, 0] S512x256.size (rowInb j)

/-- The result buffer holds what it should in the rows of the devices of `S`. -/
def outHas (c : Dev nD) (S : Finset (Dev nD)) : sProp 𝕄 :=
  iprop(∃ f : Buf (Elt F) ((c : Thread nD τ).loc cc0_stg3_0), (((c : Thread nD τ).loc cc0_stg3_0) ↦{fullShare} f)
    ∗ ⌜∀ j ∈ S, oM.view.readAt (Elt F) (rowRect j).toLoadRect f = blk m ρ c j⌝)

/-- The rows of two devices do not meet. -/
theorem rowRect_disjoint (j j' : Dev nD) (h : j ≠ j') : Disjoint (rowRect j).set (rowRect j').set :=
  Ring.lead_disjoint (s := S4096x256) 0 512 (fun j : Fin 8 => ![512 * j.val, 0]) S512x256.size rowInb (fun _ => rfl) rfl j j' h

/-- Storing the rows of device `j` adds them to the rows in place. -/
theorem outHas_store (c j : Dev nD) (S : Finset (Dev nD)) (f : (cc0_stg3_0 : Ref sig .tc).ty.Contents (Elt F))
    (hf : ∀ j' ∈ S, oM.view.readAt (Elt F) (rowRect j').toLoadRect f = blk m ρ c j') :
    ∀ j' ∈ insert j S, oM.view.readAt (Elt F) (rowRect j').toLoadRect ((oM.access (rowRect j)).write (Elt F) f (blk m ρ c j) Finset.univ) = blk m ρ c j' := by
  intro j' hj'
  by_cases h : j' = j
  · subst h; exact Cert.SlotFacts.readAt_write_access oM (rowRect j') f _
  · refine Eq.trans ?_ (hf j' (Finset.mem_of_mem_insert_of_ne hj' h))
    refine View.read_slice_write_slice_of_disjoint (v := oM.view) (rowRect j') (rowRect j) f _ Finset.univ ?_
    rw [View.setOn_univ, View.set_slice, View.set_slice]
    exact (Finset.disjoint_map _).mpr (rowRect_disjoint j' j h)

/-- Device `c` runs `p`, ending in `Q`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps

variable (K : Dev nD × CI → ℕ) (c : Dev nD) {α : Type} {Q : α → sProp (MT nD τ sig Unit (Elt F) ℕ UU ℕ)}

/-- The `p`-th signal: raises the barrier of the device `p + 1` places on, handing it the slot it is to write here. -/
theorem step_signal (p r : Fin 7) (n n' : ℕ) (hr : r = p.rev) (hn : n = p.val) (hn' : n' = p.val + 1) (e : Dev nD) (he : e = nx p c) (k' : ℤ) (hk : k' = 1)
    {kk : PUnit → Prog (TpuEff nD τ sig (Elt F) Λ₀ .tc) α} :
    recs m ρ K ⊢ iprop(owing c (owedS c 0 + owedB c n) -∗ sigTok c p -∗ rAny c r
      -∗ (owing c (owedS c 0 + owedB c n') -∗ Wp c (kk ⟨⟩) Q)
      -∗ Wp c (.op (.semSignal (e, .tc) barS k') kk) Q) := by
  subst he hk hr hn hn'
  iintro #HR HO Ht Hr Hk
  unfold owing; icases HO with ⟨%W, HO⟩
  unfold sigTok
  have hO : owedS c 0 + owedB c p.val = owedS c 0 + owedB c (p.val + 1) + tallyAt (barCell (nx p c)) () 1 := by
    rw [owedB_step, add_assoc]
  have hp : (rd m ρ).payload (barCell (nx p c)) 0 p = rAny c p.rev := by
    rw [payload_of]; unfold payOf barPay; rw [nx_rev]
  iapply (Rounds.wp_signal 𝒱₀ ER (rd m ρ) (c : Thread nD τ) none (dst := (nx p c : Thread nD τ)) (κ := K (nx p c, .inl ()))
      (d := p) (by rw [duties_bar]; exact Finset.mem_univ _) (amount_bar m ρ (nx p c) p) () (owedS c 0 + owedB c (p.val + 1)) hO) $$ [HO Ht Hr]
  · isplitr; · iapply (recs_inv m ρ K (nx p c, .inl ())); iexact HR
    isplitl [HO]; · iexact HO
    isplitl [Ht]; · iexact Ht
    isplitl [Hr]
    · iapply (Entails.of_eq hp.symm); iexact Hr
    · iapply (recs_reached m ρ K (nx p c, .inl ())); iexact HR
  iintro HO
  iapply Hk; iexists W; iexact HO

/-- The barrier's wait: every slot this device is to write on another comes with it. -/
theorem step_barrier (k' : ℤ) (hk : k' = 7) {kk : PUnit → Prog (TpuEff nD τ sig (Elt F) Λ₀ .tc) α} :
    recs m ρ K ⊢ iprop(owing c (owedS c 0) -∗ barTok c
      -∗ ((owing c (owedS c 0) ∗ semVal (barCell c) 0 ∗ bigSep Finset.univ (fun p => barPay c p)) -∗ Wp c (kk ⟨⟩) Q)
      -∗ Wp c (.op (.semWait barS k') kk) Q) := by
  subst hk
  iintro #HR HO Ht Hk
  unfold owing; icases HO with ⟨%W, HO⟩
  unfold barTok; icases Ht with ⟨Hat, Hc⟩
  iapply (Rounds.wp_wait_rest_token 𝒱₀ ER (rd m ρ) (c : Thread nD τ) none (κ := K (c, .inl ()))
      (wpE_semWait_eq 𝒱₀ (c : Thread nD τ) none Set.univ) (Set.mem_univ _) () (O := owedS c 0) (W := W) (R := 0) (m := 0) (T := ∅)
      (by rw [Nat.zero_add]; exact (expect_bar m ρ c).symm)) $$ [Hc HO Hat]
  · isplitr; · iapply (recs_inv m ρ K (c, .inl ())); iexact HR
    isplitl [Hc]; · iexact Hc
    isplitl [HO]; · iexact HO
    isplitr; · iapply (mayWait_bar c); iapply (recs_lev m ρ K); iexact HR
    iexact Hat
  iintro ⟨HO, Hat, -, Hpay⟩
  ihave Hp := (Entails.of_eq (rest_bar m ρ c)) $$ Hpay
  imod (Rounds.cell_close ER (rd m ρ) (Set.mem_univ (K (c, .inl ()))) (fun h => h) (R := 0 + 1) (duties_later m ρ (barCell c))) $$ [Hat] with Hz
  · isplitr; · iapply (recs_inv m ρ K (c, .inl ())); iexact HR
    iexact Hat
  iapply Hk
  isplitl [HO]; · iexists _; iexact HO
  isplitl [Hz]; · iexact Hz
  iexact Hp

/-- The start of the fetch of step `t` into slot `k`. -/
theorem step_fetch (k : Fin 6) (t : Fin 8) {hsrc : (gBlock c t).view.WordExact} {hdst : (wSlot k).view.WordExact}
    {hsem : (DmaTarget.here (wSlot k) : DmaTarget nD τ sig .tc .vmem S4096x256 .f32).Typed .hbm (.dma (fetchS k))}
    {kk : PUnit → Prog (TpuEff nD τ sig (Elt F) Λ₀ .tc) α} :
    gTok m c t ⊢ iprop(idle c k -∗ (fetching m c k t -∗ Wp c (kk ⟨⟩) Q)
      -∗ Wp c (.op (.enqueueDma (gBlock c t) (.here (wSlot k)) (.dma (fetchS k)) hsrc hdst hsem) kk) Q) := by
  unfold gTok idle wAny wPts
  iintro Hg ⟨⟨%f, Hw⟩, Hs⟩ Hk
  ihave Hg := ((pointsTo_split_subset (Finset.subset_univ (gBlock c t).view.set)).1) $$ Hg
  icases Hg with ⟨Hg, Hrest⟩
  iapply (Transfers.wp_dmaLocal EC 𝒱₀ (c : Thread nD τ) none (src := gBlock c t) (via := .same) (dst := wSlot k) (sm := SemLoc.dma (fetchS k))
      (Sd := (wRect k).set) () NW rfl NW_pos (le_of_eq (wSlot_set k))) $$ [Hg Hw Hs]
  · isplitl [Hg]; · iexact Hg
    isplitl [Hw]; · iexact Hw
    iexact Hs
  iintro Hf
  iapply Hk
  unfold fetching
  iexists f
  isplitl [Hf]; · iexact Hf
  iexact Hrest

/-- The end of a fetch: the slot holds the column block, the shares come back. -/
theorem step_fetched (k : Fin 6) (t : Fin 8) (n : ℕ) {s' : Shape} {e' : EltTy} {sp' : Space} {srcw : Memref sig .tc sp' s' e'}
    {hsrc : srcw.view.WordExact} {hdst : (wSlot k).view.WordExact}
    {kk : PUnit → Prog (TpuEff nD τ sig (Elt F) Λ₀ .tc) α} :
    recs m ρ K ⊢ iprop(owing c (owedS c n) -∗ fetching m c k t
      -∗ ((owing c (owedS c n) ∗ wHas m c k t ∗ semVal ((c : Thread nD τ), SemLoc.dma (fetchS k)) 0 ∗ gTok m c t) -∗ Wp c (kk ⟨⟩) Q)
      -∗ Wp c (.op (.waitDma2 (fetchS k) srcw (wSlot k) hsrc hdst) kk) Q) := by
  iintro #HR HO Hf Hk
  unfold owing; icases HO with ⟨%W, HO⟩
  unfold fetching; icases Hf with ⟨%f, Hf, Hrest⟩
  iapply (Transfers.wp_waitLocalO EC 𝒱₀ (c : Thread nD τ) none () (credit_w k)) $$ [Hf HO]
  · isplitl [Hf]; · iexact Hf
    isplitl [HO]; · iexact HO
    iapply (mayWait_fetch c k n); iapply (recs_lev m ρ K); iexact HR
  iintro ⟨⟨Hw, Hg⟩, Hs, HO⟩
  iapply Hk
  isplitl [HO]; · iexists _; iexact HO
  isplitl [Hw]
  · unfold wHas wPts
    iexists _
    isplitl [Hw]; · iexact Hw
    ipureintro
    exact Cert.SlotFacts.readAt_write_squeezed wM (wRect k) (fun _ => rfl) squeezes_S1x4096x256_S4096x256 f _
  isplitl [Hs]; · iexact Hs
  unfold gTok
  iapply ((pointsTo_split_subset (Finset.subset_univ (gBlock c t).view.set)).2)
  isplitl [Hg]; · iexact Hg
  iexact Hrest

/-- The rows are rounded into their buffer. -/
theorem step_round {hl : xM.view.LoadsAt xRect.toLoadRect} {hl' : qM.view.LoadsAt xRect.toLoadRect}
    {hx : (qM.access xRect).Stores Finset.univ} {hm : (Finset.univ : Finset xRect.shape.Idx) = Finset.univ ∨ ∀ a, xRect.stride a = 1}
    {kk : PUnit → Prog (TpuEff nD τ sig (Elt F) Λ₀ .tc) α} :
    (((c : Thread nD τ).loc cc0_stg0_0) ↦{fullShare} xv m ρ c : sProp 𝕄)
      ⊢ iprop((∃ f : Buf (Elt F) ((c : Thread nD τ).loc cc0_scratch0), ((c : Thread nD τ).loc cc0_scratch0) ↦{fullShare} f)
      -∗ (((((c : Thread nD τ).loc cc0_stg0_0) ↦{fullShare} xv m ρ c) ∗ qHas m ρ c) -∗ Wp c (kk ⟨⟩) Q)
      -∗ Wp c (.op (.load xM xRect.toLoadRect hl) fun a => .op (.load qM xRect.toLoadRect hl') fun _ =>
          .op (.store qM xRect (k0_pay2 a) Finset.univ hx hm) kk) Q) := by
  iintro Hx ⟨%f, Hq⟩ Hk
  iapply (wp_load 𝒱₀ (c : Thread nD τ) none Set.univ (m := xM) (Finset.subset_univ _)) $$ Hx; iintro Hx
  iapply (wp_load 𝒱₀ (c : Thread nD τ) none Set.univ (m := qM) (Finset.subset_univ _)) $$ Hq; iintro Hq
  iapply (wp_store 𝒱₀ (c : Thread nD τ) none Set.univ (m := qM) (r := xRect) (Mk := Finset.univ) (Finset.subset_univ _)) $$ Hq; iintro Hq
  iapply Hk
  isplitl [Hx]; · iexact Hx
  unfold qHas
  iexists _
  isplitl [Hq]; · iexact Hq
  ipureintro
  exact Cert.SlotFacts.readAt_write_access qM xRect f _

/-- The product for the device `i + 1` places on: its fetch's end, the loads, the product into the outgoing slot. -/
theorem step_product (k : Fin 6) (i : Fin 7) (t : Fin 8) (ht : t = i.castSucc) (n : ℕ)
    (pay : F .f32 → Vec F S512x4096 .fp8e4m3 → Vec F S1x4096x256 .f32 → Vec F S1x512x256 .bf16) (hpay : pay = k0_pay3)
    {s' : Shape} {e' : EltTy} {sp' : Space} {srcw : Memref sig .tc sp' s' e'}
    {hsrc : srcw.view.WordExact} {hdst : (wSlot k).view.WordExact} {h₁ : qM.view.LoadsAt xRect.toLoadRect}
    {h₂ : wM.view.LoadsAt (wRect k).toLoadRect} {h₃ : yM.view.LoadsAt (yRect i).toLoadRect}
    {hx : (yM.access (yRect i)).Stores Finset.univ} {hm : (Finset.univ : Finset (yRect i).shape.Idx) = Finset.univ ∨ ∀ a, (yRect i).stride a = 1}
    {kk : PUnit → Prog (TpuEff nD τ sig (Elt F) Λ₀ .tc) α} :
    recs m ρ K ⊢ iprop(owing c (owedS c n) -∗ fetching m c k t -∗ qHas m ρ c -∗ yAny c i
      -∗ ((owing c (owedS c n) ∗ idle c k ∗ gTok m c t ∗ qHas m ρ c ∗ yHas m ρ c i) -∗ Wp c (kk ⟨⟩) Q)
      -∗ Wp c (.op (.waitDma2 (fetchS k) srcw (wSlot k) hsrc hdst) fun _ => .op (.load qM xRect.toLoadRect h₁) fun a =>
          .op (.load wM (wRect k).toLoadRect h₂) fun b => .op (.load yM (yRect i).toLoadRect h₃) fun _ =>
          .op (.store yM (yRect i) (pay (sc m ρ c) a b) Finset.univ hx hm) kk) Q) := by
  subst hpay ht
  iintro #HR HO Hf Hq Hy Hk
  iapply (step_fetched m ρ K c k i.castSucc n) $$ HR HO Hf
  iintro ⟨HO, Hw, Hs, Hg⟩
  unfold qHas wHas yAny wPts yPts
  icases Hq with ⟨%fq, Hq, %hq⟩
  icases Hw with ⟨%fw, Hw, %hw⟩
  icases Hy with ⟨%fy, Hy⟩
  iapply (wp_load 𝒱₀ (c : Thread nD τ) none Set.univ (m := qM) (Finset.subset_univ _)) $$ Hq; iintro Hq
  iapply (wp_load_rect 𝒱₀ (c : Thread nD τ) none Set.univ (m := wM) (r := wRect k) (by rw [View.set_slice]; exact le_of_eq Finset.map_refl)) $$ Hw; iintro Hw
  iapply (wp_load_rect 𝒱₀ (c : Thread nD τ) none Set.univ (m := yM) (r := yRect i) (by rw [View.set_slice]; exact le_of_eq Finset.map_refl)) $$ Hy; iintro Hy
  iapply (wp_store 𝒱₀ (c : Thread nD τ) none Set.univ (m := yM) (r := yRect i) (Mk := Finset.univ)
    (by rw [View.setOn_univ, View.set_slice]; exact le_of_eq Finset.map_refl)) $$ Hy; iintro Hy
  iapply Hk
  isplitl [HO]; · iexact HO
  isplitl [Hw Hs]
  · unfold idle wAny wPts
    isplitl [Hw]; · iexists fw; iexact Hw
    iexact Hs
  isplitl [Hg]; · iexact Hg
  isplitl [Hq]
  · iexists fq; isplitl [Hq]; · iexact Hq
    ipureintro; exact hq
  unfold yHas yPts
  iexists _
  isplitl [Hy]; · iexact Hy
  ipureintro
  refine (Cert.SlotFacts.readAt_write_access yM (yRect i) fy _).trans ?_
  rw [hq, ← View.readAt_rect, hw]; rfl

/-- Sending product `i`. -/
theorem step_send (i : Fin 7) (n n' : ℕ) (hn : n = i.val) (hn' : n' = i.val + 1) (e : Dev nD) (he : e = nx i c) {hsc : (rSlot i).view.ref.isScScratch = false}
    {hsrc : (ySlot i).view.WordExact} {hdst : (rSlot i).view.WordExact}
    {hsem : (DmaTarget.remote (Dev.tc e : Thread nD τ) (rSlot i) (.dma (sendS i)) hsc : DmaTarget nD τ sig .tc .vmem S512x256 .bf16).Typed .vmem (.dma (recvS i))}
    {kk : PUnit → Prog (TpuEff nD τ sig (Elt F) Λ₀ .tc) α} :
    recs m ρ K ⊢ iprop(owing c (owedS c n) -∗ yHas m ρ c i -∗ sendTok c i -∗ rAny (nx i c) i
      -∗ ((owing c (owedS c n') ∗ sentTok c i) -∗ Wp c (kk ⟨⟩) Q)
      -∗ Wp c (.op (.enqueueDma (ySlot i) (.remote (Dev.tc e : Thread nD τ) (rSlot i) (.dma (sendS i)) hsc) (.dma (recvS i)) hsrc hdst hsem) kk) Q) := by
  subst he hn hn'
  iintro #HR HO Hy Ht Hr Hk
  unfold owing; icases HO with ⟨%W, HO⟩
  unfold yHas rAny sendTok sentTok
  icases Hy with ⟨%fy, Hy, %hy⟩
  icases Hr with ⟨%fr, Hr⟩
  icases Ht with ⟨HtS, HtR, Hat⟩
  unfold yPts rPts
  have hd₁ : (0 : Fin 7) ∈ (rd m ρ).duties (sendCell c i) 0 := by rw [duties_xfer]; exact Finset.mem_singleton_self _
  have hd₂ : (0 : Fin 7) ∈ (rd m ρ).duties (recvCell (nx i c) i) 0 := by rw [duties_xfer]; exact Finset.mem_singleton_self _
  have hp₁ : ((ySlot i).view.loc (c : Thread nD τ) ↦[(ySlot i).view.set]{fullShare} fy : sProp 𝕄) ⊢ (rd m ρ).payload (sendCell c i) 0 0 := by
    rw [payload_of, ySlot_set]; unfold payOf yAny yPts; iintro H; iexists fy; iexact H
  have hp₂ : ((rSlot i).view.loc (nx i c : Thread nD τ) ↦[(rSlot i).view.set]{fullShare}
      (rSlot i).view.write (Elt F) fr ((ySlot i).view.read (Elt F) fy) Finset.univ : sProp 𝕄) ⊢ (rd m ρ).payload (recvCell (nx i c) i) 0 0 := by
    rw [payload_of, rSlot_set]; unfold payOf rHas rPts
    iintro H; iexists _
    isplitl [H]; · iexact H
    ipureintro
    rw [show pv i (nx i c) = c from nx_rev i c]
    refine (Cert.SlotFacts.readAt_write_squeezed rM (yRect i) (fun _ => rfl) squeezes_S1x512x256_S512x256 fr _).trans ?_
    rw [Cert.SlotFacts.read_squeezed yM (yRect i) (fun _ => rfl) squeezes_S1x512x256_S512x256, hy]
    funext x
    exact congrArg (yv m ρ c i) (Equiv.apply_symm_apply _ _)
  iapply (Rounds.wp_send_pointsTo 𝒱₀ ER (rd m ρ) (c : Thread nD τ) none (κ₁ := K (c, .inr (.inl i))) (κ₂ := K (nx i c, .inr (.inr i)))
    (src := ySlot i) (dst := rSlot i) (c' := (nx i c : Thread nD τ)) (sS := .dma (sendS i)) (sem := .dma (recvS i))
    (r₁ := 0) (r₂ := 0) (d₁ := 0) (d₂ := 0) (fd := fr) hd₁ hd₂
    () () N rfl (amount_xfer m ρ c (.inl i) 0) (amount_xfer m ρ (nx i c) (.inr i) 0) (owedS c (i.val + 1)) (owedS_step c i) (W := W)
    hp₁ hp₂) $$ [HO Hy Hr HtS HtR]
  · isplitr; · iapply (recs_inv m ρ K (c, .inr (.inl i))); iexact HR
    isplitr; · iapply (recs_inv m ρ K (nx i c, .inr (.inr i))); iexact HR
    isplitl [Hy]; · rw [ySlot_set]; iexact Hy
    isplitl [Hr]; · rw [rSlot_set]; iexact Hr
    isplitl [HO]; · iexact HO
    isplitl [HtS]; · iexact HtS
    isplitr; · iapply (recs_reached m ρ K (c, .inr (.inl i))); iexact HR
    isplitl [HtR]; · iexact HtR
    iapply (recs_reached m ρ K (nx i c, .inr (.inr i))); iexact HR
  iintro ⟨Hc, HO⟩
  iapply Hk
  isplitl [HO]; · iexists W; iexact HO
  isplitl [Hat]; · iexact Hat
  iexact Hc

/-- The wait for the departure of product `i`: its slot comes back and the cell is done. -/
theorem step_sent (i : Fin 7) {s' : Shape} {e' : EltTy} {sp' : Space} {srcw : Memref sig .tc sp' s' e'} {dstw : Memref sig .tc .vmem S512x256 .bf16}
    (hN : dstw.view.dmaCredit = N) {hsrc : srcw.view.WordExact} {hdst : dstw.view.WordExact}
    {kk : PUnit → Prog (TpuEff nD τ sig (Elt F) Λ₀ .tc) α} :
    recs m ρ K ⊢ iprop(owing c 0 -∗ sentTok c i
      -∗ ((owing c 0 ∗ yAny c i ∗ semVal (sendCell c i) 0) -∗ Wp c (kk ⟨⟩) Q)
      -∗ Wp c (.op (.waitDma2 (sendS i) srcw dstw hsrc hdst) kk) Q) := by
  iintro #HR HO Ht Hk
  unfold owing; icases HO with ⟨%W, HO⟩
  unfold sentTok; icases Ht with ⟨Hat, Hc⟩
  iapply (Rounds.wp_wait_rest_token 𝒱₀ ER (rd m ρ) (c : Thread nD τ) none (κ := K (c, .inr (.inl i)))
      (wpE_waitDma2_eq 𝒱₀ (c : Thread nD τ) none Set.univ) (Set.mem_univ _) () (O := 0) (W := W) (R := 0) (m := 0) (T := ∅)
      (by rw [Nat.zero_add, hN]; exact (expect_xfer m ρ c (.inl i)).symm)) $$ [Hc HO Hat]
  · isplitr; · iapply (recs_inv m ρ K (c, .inr (.inl i))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m ρ c i)) $$ Hpay
  imod (Rounds.cell_close ER (rd m ρ) (Set.mem_univ (K (c, .inr (.inl i)))) (fun h => h) (R := 0 + 1) (duties_later m ρ (sendCell c i))) $$ [Hat] with Hz
  · isplitr; · iapply (recs_inv m ρ K (c, .inr (.inl i))); iexact HR
    iexact Hat
  iapply Hk
  isplitl [HO]; · iexists _; iexact HO
  isplitl [Hp]; · iexact Hp
  iexact Hz

/-- The wait for the arrival through slot `i`: the slot holds the sender's product, and the cell is done. -/
theorem step_arrived (i : Fin 7) {s' : Shape} {e' : EltTy} {sp' : Space} {srcw : Memref sig .tc sp' s' e'} {dstw : Memref sig .tc .vmem S512x256 .bf16}
    (hN : dstw.view.dmaCredit = N) {hsrc : srcw.view.WordExact} {hdst : dstw.view.WordExact}
    {kk : PUnit → Prog (TpuEff nD τ sig (Elt F) Λ₀ .tc) α} :
    recs m ρ K ⊢ iprop(owing c 0 -∗ recvTok c i
      -∗ ((owing c 0 ∗ rHas m ρ c i ∗ semVal (recvCell c i) 0) -∗ Wp c (kk ⟨⟩) Q)
      -∗ Wp c (.op (.waitDma2 (recvS i) srcw dstw hsrc hdst) kk) Q) := by
  iintro #HR HO Ht Hk
  unfold owing; icases HO with ⟨%W, HO⟩
  unfold recvTok; icases Ht with ⟨Hat, Hc⟩
  iapply (Rounds.wp_wait_rest_token 𝒱₀ ER (rd m ρ) (c : Thread nD τ) none (κ := K (c, .inr (.inr i)))
      (wpE_waitDma2_eq 𝒱₀ (c : Thread nD τ) none Set.univ) (Set.mem_univ _) () (O := 0) (W := W) (R := 0) (m := 0) (T := ∅)
      (by rw [Nat.zero_add, hN]; exact (expect_xfer m ρ c (.inr i)).symm)) $$ [Hc HO Hat]
  · isplitr; · iapply (recs_inv m ρ K (c, .inr (.inr i))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m ρ c i)) $$ Hpay
  imod (Rounds.cell_close ER (rd m ρ) (Set.mem_univ (K (c, .inr (.inr i)))) (fun h => h) (R := 0 + 1) (duties_later m ρ (recvCell c i))) $$ [Hat] with Hz
  · isplitr; · iapply (recs_inv m ρ K (c, .inr (.inr i))); iexact HR
    iexact Hat
  iapply Hk
  isplitl [HO]; · iexists _; iexact HO
  isplitl [Hp]; · iexact Hp
  iexact Hz

/-- The product the device keeps: the last fetch's end, the loads, the product into its own rows of the result. -/
theorem step_own (k : Fin 6) (S : Finset (Dev nD)) (off : Fin 2 → ℕ) (hoff : off = ![512 * c.val, 0]) (inb : ∀ a, off a + S512x256.size a ≤ S4096x256.size a)
    {s' : Shape} {e' : EltTy} {sp' : Space} {srcw : Memref sig .tc sp' s' e'}
    {hsrc : srcw.view.WordExact} {hdst : (wSlot k).view.WordExact} {h₁ : qM.view.LoadsAt xRect.toLoadRect}
    {h₂ : wM.view.LoadsAt (wRect k).toLoadRect} {h₃ : oM.view.LoadsAt (Rect.unit (s := S4096x256) off S512x256.size inb).toLoadRect}
    {hx : (oM.access (Rect.unit (s := S4096x256) off S512x256.size inb)).Stores Finset.univ}
    {hm : (Finset.univ : Finset (Rect.unit (s := S4096x256) off S512x256.size inb).shape.Idx) = Finset.univ ∨ ∀ a, (Rect.unit (s := S4096x256) off S512x256.size inb).stride a = 1}
    {kk : PUnit → Prog (TpuEff nD τ sig (Elt F) Λ₀ .tc) α} :
    recs m ρ K ⊢ iprop(owing c 0 -∗ fetching m c k 7 -∗ qHas m ρ c -∗ outHas m ρ c S
      -∗ ((owing c 0 ∗ idle c k ∗ gTok m c 7 ∗ qHas m ρ c ∗ outHas m ρ c (insert c S)) -∗ Wp c (kk ⟨⟩) Q)
      -∗ Wp c (.op (.waitDma2 (fetchS k) srcw (wSlot k) hsrc hdst) fun _ => .op (.load qM xRect.toLoadRect h₁) fun a =>
          .op (.load wM (wRect k).toLoadRect h₂) fun b => .op (.load oM (Rect.unit (s := S4096x256) off S512x256.size inb).toLoadRect h₃) fun _ =>
          .op (.store oM (Rect.unit (s := S4096x256) off S512x256.size inb) (k0_pay11 (sc m ρ c) a b) Finset.univ hx hm) kk) Q) := by
  subst hoff
  iintro #HR HO Hf Hq Ho Hk
  rw [← owedS_end c]
  iapply (step_fetched m ρ K c k 7 7) $$ HR HO Hf
  iintro ⟨HO, Hw, Hs, Hg⟩
  unfold qHas wHas outHas wPts
  icases Hq with ⟨%fq, Hq, %hq⟩
  icases Hw with ⟨%fw, Hw, %hw⟩
  icases Ho with ⟨%fo, Ho, %ho⟩
  iapply (wp_load 𝒱₀ (c : Thread nD τ) none Set.univ (m := qM) (Finset.subset_univ _)) $$ Hq; iintro Hq
  iapply (wp_load_rect 𝒱₀ (c : Thread nD τ) none Set.univ (m := wM) (r := wRect k) (by rw [View.set_slice]; exact le_of_eq Finset.map_refl)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := rowRect c) (Mk := Finset.univ) (Finset.subset_univ _)) $$ Ho; iintro Ho
  iapply Hk
  isplitl [HO]; · iexact HO
  isplitl [Hw Hs]
  · unfold idle wAny wPts
    isplitl [Hw]; · iexists fw; iexact Hw
    iexact Hs
  isplitl [Hg]; · iexact Hg
  isplitl [Hq]
  · iexists fq; isplitl [Hq]; · iexact Hq
    ipureintro; exact hq
  iexists _
  isplitl [Ho]; · iexact Ho
  ipureintro
  rw [hq, ← View.readAt_rect, hw, show k0_pay11 (sc m ρ c) (x8 m ρ c) (wv m c 7) = blk m ρ c c from (blk_own m ρ c).symm]
  exact outHas_store m ρ c c S fo ho

/-- The product received through slot `i`: the wait for it, the load, the product into the sender's rows of the result. -/
theorem step_received (i : Fin 7) (S : Finset (Dev nD)) (off : Fin 2 → ℕ) (hoff : off = ![512 * (pv i c).val, 0]) (inb : ∀ a, off a + S512x256.size a ≤ S4096x256.size a)
    (pay : Vec F S1x512x256 .bf16 → Vec F S512x256 .f32) (hpay : pay = k0_pay12)
    {s' : Shape} {e' : EltTy} {sp' : Space} {srcw : Memref sig .tc sp' s' e'}
    {hsrc : srcw.view.WordExact} {hdst : (rSlot i).view.WordExact} {h₁ : rM.view.LoadsAt (yRect i).toLoadRect}
    {h₃ : oM.view.LoadsAt (Rect.unit (s := S4096x256) off S512x256.size inb).toLoadRect}
    {hx : (oM.access (Rect.unit (s := S4096x256) off S512x256.size inb)).Stores Finset.univ}
    {hm : (Finset.univ : Finset (Rect.unit (s := S4096x256) off S512x256.size inb).shape.Idx) = Finset.univ ∨ ∀ a, (Rect.unit (s := S4096x256) off S512x256.size inb).stride a = 1}
    {kk : PUnit → Prog (TpuEff nD τ sig (Elt F) Λ₀ .tc) α} :
    recs m ρ K ⊢ iprop(owing c 0 -∗ recvTok c i -∗ outHas m ρ c S
      -∗ ((owing c 0 ∗ rAny c i ∗ semVal (recvCell c i) 0 ∗ outHas m ρ c (insert (pv i c) S)) -∗ Wp c (kk ⟨⟩) Q)
      -∗ Wp c (.op (.waitDma2 (recvS i) srcw (rSlot i) hsrc hdst) fun _ => .op (.load rM (yRect i).toLoadRect h₁) fun a =>
          .op (.load oM (Rect.unit (s := S4096x256) off S512x256.size inb).toLoadRect h₃) fun _ =>
          .op (.store oM (Rect.unit (s := S4096x256) off S512x256.size inb) (pay a) Finset.univ hx hm) kk) Q) := by
  subst hoff hpay
  iintro #HR HO Ht Ho Hk
  iapply (step_arrived m ρ K c i (credit_r i)) $$ HR HO Ht
  iintro ⟨HO, Hr, Hs⟩
  unfold rHas outHas rPts
  icases Hr with ⟨%fr, Hr, %hr⟩
  icases Ho with ⟨%fo, Ho, %ho⟩
  iapply (wp_load_rect 𝒱₀ (c : Thread nD τ) none Set.univ (m := rM) (r := yRect i) (by rw [View.set_slice]; exact le_of_eq Finset.map_refl)) $$ Hr; iintro Hr
  iapply (wp_load 𝒱₀ (c : Thread nD τ) none Set.univ (m := oM) (Finset.subset_univ _)) $$ Ho; iintro Ho
  iapply (wp_store 𝒱₀ (c : Thread nD τ) none Set.univ (m := oM) (r := rowRect (pv i c)) (Mk := Finset.univ) (Finset.subset_univ _)) $$ Ho; iintro Ho
  iapply Hk
  isplitl [HO]; · iexact HO
  isplitl [Hr]; · unfold rAny rPts; iexists fr; iexact Hr
  isplitl [Hs]; · iexact Hs
  iexists _
  isplitl [Ho]; · iexact Ho
  ipureintro
  rw [← View.readAt_rect, hr, ← blk_pv m ρ c i]
  exact outHas_store m ρ c (pv i c) S fo ho

end Steps

end Cert.KernelProof

end
-- ==== Proof.Body.lean ====
/-
# One device's run of the kernel's body

The body walked from its start to its end, a step at a time, every step by its theorem: the seven signals, the barrier, the
scales, the fetches, the rounded rows, the seven products with their sends, the product kept, the seven arrivals, the seven
departures.
-/
module

public import proofs.«01_k».proof.Proof.Steps

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Something for each of the seven slots, in order; for each of the six fetch slots; for each of the eight steps. -/
abbrev seven (Φ : Fin 7 → sProp 𝕄) : sProp 𝕄 := iprop(Φ 0 ∗ Φ 1 ∗ Φ 2 ∗ Φ 3 ∗ Φ 4 ∗ Φ 5 ∗ Φ 6)
abbrev six (Φ : Fin 6 → sProp 𝕄) : sProp 𝕄 := iprop(Φ 0 ∗ Φ 1 ∗ Φ 2 ∗ Φ 3 ∗ Φ 4 ∗ Φ 5)
abbrev eight (Φ : Fin 8 → sProp 𝕄) : sProp 𝕄 := iprop(Φ 0 ∗ Φ 1 ∗ Φ 2 ∗ Φ 3 ∗ Φ 4 ∗ Φ 5 ∗ Φ 6 ∗ Φ 7)

omit [FloatOps F] in
/-- A separating conjunction over seven slots, written out. -/
theorem seven_eq (Φ : Fin 7 → sProp 𝕄) : bigSep Finset.univ Φ = seven Φ := by
  rw [bigSep_univ_eq_bigSepL [0, 1, 2, 3, 4, 5, 6] (by decide) (by decide)]
  simp only [bigSepL_cons_cons, bigSepL_singleton]; rfl
omit [FloatOps F] in
/-- The same over six. -/
theorem six_eq (Φ : Fin 6 → sProp 𝕄) : bigSep Finset.univ Φ = six Φ := by
  rw [bigSep_univ_eq_bigSepL [0, 1, 2, 3, 4, 5] (by decide) (by decide)]
  simp only [bigSepL_cons_cons, bigSepL_singleton]; rfl
omit [FloatOps F] in
/-- The same over eight. -/
theorem eight_eq (Φ : Fin 8 → sProp 𝕄) : bigSep Finset.univ Φ = eight Φ := by
  rw [bigSep_univ_eq_bigSepL [0, 1, 2, 3, 4, 5, 6, 7] (by decide) (by decide)]
  simp only [bigSepL_cons_cons, bigSepL_singleton]; rfl

/-- The buffers staged for the body. -/
def staged (c : Dev nD) : sProp 𝕄 :=
  iprop((((c : Thread nD τ).loc cc0_stg0_0) ↦{fullShare} xv m ρ c) ∗ (((c : Thread nD τ).loc cc0_stg1_0) ↦{fullShare} sxv m ρ c)
    ∗ (((c : Thread nD τ).loc cc0_stg2_0) ↦{fullShare} swv m ρ c))

/-- What the body starts from, beside what every device knows; -/
def bodyStart (c : Dev nD) : sProp 𝕄 :=
  iprop(owing c (O₀ c) ∗ barTok c ∗ seven (sigTok c) ∗ seven (rAny c) ∗ seven (sendTok c) ∗ seven (recvTok c) ∗ seven (yAny c)
    ∗ six (idle c) ∗ eight (gTok m c) ∗ staged m ρ c
    ∗ (∃ f : Buf (Elt F) ((c : Thread nD τ).loc cc0_scratch0), ((c : Thread nD τ).loc cc0_scratch0) ↦{fullShare} f)
    ∗ (∃ f : Buf (Elt F) ((c : Thread nD τ).loc cc0_stg3_0), ((c : Thread nD τ).loc cc0_stg3_0) ↦{fullShare} f))

/-- and what it ends in: nothing owed, every semaphore at zero, every buffer back, the result in place. -/
def bodyEnd (c : Dev nD) : sProp 𝕄 :=
  iprop(owing c 0 ∗ semVal (barCell c) 0 ∗ seven (fun i => semVal (recvCell c i) 0) ∗ seven (rAny c)
    ∗ seven (fun i => semVal (sendCell c i) 0) ∗ seven (yAny c)
    ∗ six (idle c) ∗ eight (gTok m c) ∗ staged m ρ c ∗ qHas m ρ c ∗ outHas m ρ c Finset.univ)

/-- A device's own rows and those of its seven predecessors are the rows of all the devices. -/
theorem all_rows (c : Dev nD) : insert (pv 6 c) (insert (pv 5 c) (insert (pv 4 c) (insert (pv 3 c) (insert (pv 2 c) (insert (pv 1 c) (insert (pv 0 c) (insert c ∅)))))))
    = (Finset.univ : Finset (Dev nD)) := by revert c; decide

/-- What the barrier hands a device: on each of the others, the slot it sends that one's product into. -/
theorem landing_eq (c : Dev nD) : bigSep Finset.univ (fun p => barPay c p)
    = (iprop(rAny (nx 6 c) 6 ∗ rAny (nx 5 c) 5 ∗ rAny (nx 4 c) 4 ∗ rAny (nx 3 c) 3 ∗ rAny (nx 2 c) 2 ∗ rAny (nx 1 c) 1 ∗ rAny (nx 0 c) 0) : sProp 𝕄) :=
  (seven_eq (fun p => barPay c p)).trans rfl

variable (K : Dev nD × CI → ℕ)

set_option maxHeartbeats 4000000 in
set_option maxRecDepth 65536 in
/-- The body of one device: from the shared records and what the device starts with, it ends with what `bodyEnd` lists. -/
theorem run_body (c : Dev nD) (Q : PUnit → sProp (MT nD τ sig Unit (Elt F) ℕ UU ℕ)) :
    recs m ρ K ⊢ iprop(bodyStart m ρ c -∗ (bodyEnd m ρ c -∗ Q ⟨⟩)
      -∗ Wp c (cc0_body (Memref.whole cc0_stg0_0) (Memref.isWhole_whole _) (Memref.whole main_arg1) (Memref.isWhole_whole _)
        (Memref.whole cc0_stg1_0) (Memref.isWhole_whole _) (Memref.whole cc0_stg2_0) (Memref.isWhole_whole _)
        (Memref.whole cc0_stg3_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 cc0_scratch6) Q) := by
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel
  simp only [semSignalWord, semWaitWord, Prog.lift, Prog.bind_op, Prog.bind_ret, Prog.pure_eq_ret, wp_deviceId]
  iintro #HR Hst Hk
  unfold bodyStart staged O₀
  icases Hst with ⟨HO, Hbar, ⟨Hs0, Hs1, Hs2, Hs3, Hs4, Hs5, Hs6⟩, ⟨Hr0, Hr1, Hr2, Hr3, Hr4, Hr5, Hr6⟩, ⟨Ht0, Ht1, Ht2, Ht3, Ht4, Ht5, Ht6⟩,
    ⟨Hv0, Hv1, Hv2, Hv3, Hv4, Hv5, Hv6⟩, ⟨Hy0, Hy1, Hy2, Hy3, Hy4, Hy5, Hy6⟩, ⟨Hw0, Hw1, Hw2, Hw3, Hw4, Hw5⟩,
    ⟨Hg0, Hg1, Hg2, Hg3, Hg4, Hg5, Hg6, Hg7⟩, ⟨Hx, Hsx, Hsw⟩, Hq, ⟨%fo, Ho⟩⟩
  iapply (step_signal m ρ K c 0 6 0 1 rfl rfl rfl _ (dev1_eq c) _ (by decide)) $$ HR HO Hs0 Hr6; iintro HO
  iapply (step_signal m ρ K c 1 5 1 2 rfl rfl rfl _ (dev2_eq c) _ (by decide)) $$ HR HO Hs1 Hr5; iintro HO
  iapply (step_signal m ρ K c 2 4 2 3 rfl rfl rfl _ (dev3_eq c) _ (by decide)) $$ HR HO Hs2 Hr4; iintro HO
  iapply (step_signal m ρ K c 3 3 3 4 rfl rfl rfl _ (dev4_eq c) _ (by decide)) $$ HR HO Hs3 Hr3; iintro HO
  iapply (step_signal m ρ K c 4 2 4 5 rfl rfl rfl _ (dev5_eq c) _ (by decide)) $$ HR HO Hs4 Hr2; iintro HO
  iapply (step_signal m ρ K c 5 1 5 6 rfl rfl rfl _ (dev6_eq c) _ (by decide)) $$ HR HO Hs5 Hr1; iintro HO
  iapply (step_signal m ρ K c 6 0 6 7 rfl rfl rfl _ (dev7_eq c) _ (by decide)) $$ HR HO Hs6 Hr0; iintro HO
  ihave HO := (Entails.of_eq (congrArg (owing c) (show owedS c 0 + owedB c 7 = owedS c 0 by rw [owedB_end, add_zero]))) $$ HO
  iapply (step_barrier m ρ K c _ (by decide)) $$ HR HO Hbar
  iintro ⟨HO, Hz, Hpay⟩
  ihave Hpay := (Entails.of_eq (landing_eq c)) $$ Hpay
  icases Hpay with ⟨Hn6, Hn5, Hn4, Hn3, Hn2, Hn1, Hn0⟩
  iapply (wp_load_rect 𝒱₀ (c : Thread nD τ) none Set.univ (m := sxM) (r := oneRect) (Finset.subset_univ _)) $$ Hsx; iintro Hsx
  iapply (wp_load_rect 𝒱₀ (c : Thread nD τ) none Set.univ (m := swM) (r := oneRect) (Finset.subset_univ _)) $$ Hsw; iintro Hsw
  iapply (step_fetch m c 0 0) $$ Hg0 Hw0; iintro Hf0
  iapply (step_fetch m c 1 1) $$ Hg1 Hw1; iintro Hf1
  iapply (step_fetch m c 2 2) $$ Hg2 Hw2; iintro Hf2
  iapply (step_fetch m c 3 3) $$ Hg3 Hw3; iintro Hf3
  iapply (step_fetch m c 4 4) $$ Hg4 Hw4; iintro Hf4
  iapply (step_round m ρ c) $$ Hx Hq; iintro ⟨Hx, Hq⟩
  iapply (step_fetch m c 5 5) $$ Hg5 Hw5; iintro Hf5
  iapply (step_product m ρ K c 0 0 0 rfl 0 k0_pay3 rfl) $$ HR HO Hf0 Hq Hy0; iintro ⟨HO, Hw0, Hg0, Hq, Hy0⟩
  iapply (step_send m ρ K c 0 0 1 rfl rfl _ (dev8_eq c)) $$ HR HO Hy0 Ht0 Hn0; iintro ⟨HO, Ht0⟩
  iapply (step_fetch m c 0 6) $$ Hg6 Hw0; iintro Hf0
  iapply (step_product m ρ K c 1 1 1 rfl 1 k0_pay3 rfl) $$ HR HO Hf1 Hq Hy1; iintro ⟨HO, Hw1, Hg1, Hq, Hy1⟩
  iapply (step_send m ρ K c 1 1 2 rfl rfl _ (dev9_eq c)) $$ HR HO Hy1 Ht1 Hn1; iintro ⟨HO, Ht1⟩
  iapply (step_fetch m c 1 7) $$ Hg7 Hw1; iintro Hf1
  iapply (step_product m ρ K c 2 2 2 rfl 2 k0_pay3 rfl) $$ HR HO Hf2 Hq Hy2; iintro ⟨HO, Hw2, Hg2, Hq, Hy2⟩
  iapply (step_send m ρ K c 2 2 3 rfl rfl _ (dev10_eq c)) $$ HR HO Hy2 Ht2 Hn2; iintro ⟨HO, Ht2⟩
  iapply (step_product m ρ K c 3 3 3 rfl 3 k0_pay3 rfl) $$ HR HO Hf3 Hq Hy3; iintro ⟨HO, Hw3, Hg3, Hq, Hy3⟩
  iapply (step_send m ρ K c 3 3 4 rfl rfl _ (dev11_eq c)) $$ HR HO Hy3 Ht3 Hn3; iintro ⟨HO, Ht3⟩
  iapply (step_product m ρ K c 4 4 4 rfl 4 k0_pay3 rfl) $$ HR HO Hf4 Hq Hy4; iintro ⟨HO, Hw4, Hg4, Hq, Hy4⟩
  iapply (step_send m ρ K c 4 4 5 rfl rfl _ (dev12_eq c)) $$ HR HO Hy4 Ht4 Hn4; iintro ⟨HO, Ht4⟩
  iapply (step_product m ρ K c 5 5 5 rfl 5 k0_pay3 rfl) $$ HR HO Hf5 Hq Hy5; iintro ⟨HO, Hw5, Hg5, Hq, Hy5⟩
  iapply (step_send m ρ K c 5 5 6 rfl rfl _ (dev13_eq c)) $$ HR HO Hy5 Ht5 Hn5; iintro ⟨HO, Ht5⟩
  iapply (step_product m ρ K c 0 6 6 rfl 6 k0_pay3 rfl) $$ HR HO Hf0 Hq Hy6; iintro ⟨HO, Hw0, Hg6, Hq, Hy6⟩
  iapply (step_send m ρ K c 6 6 7 rfl rfl _ (dev14_eq c)) $$ HR HO Hy6 Ht6 Hn6; iintro ⟨HO, Ht6⟩
  ihave HO := (Entails.of_eq (congrArg (owing c) (owedS_end c))) $$ HO
  ihave Ho : outHas m ρ c ∅ $$ [Ho]
  · unfold outHas; iexists fo; isplitl [Ho]; · iexact Ho
    ipureintro; intro j hj; exact absurd hj (Finset.notMem_empty j)
  iapply (step_own m ρ K c 1 ∅ _ (k0_off2_eq c) _) $$ HR HO Hf1 Hq Ho; iintro ⟨HO, Hw1, Hg7, Hq, Ho⟩
  iapply (step_received m ρ K c 0 _ _ (off3_eq c 0) _ _ rfl) $$ HR HO Hv0 Ho; iintro ⟨HO, Hr0, Hv0, Ho⟩
  iapply (step_received m ρ K c 1 _ _ (off3_eq c 1) _ _ rfl) $$ HR HO Hv1 Ho; iintro ⟨HO, Hr1, Hv1, Ho⟩
  iapply (step_received m ρ K c 2 _ _ (off3_eq c 2) _ _ rfl) $$ HR HO Hv2 Ho; iintro ⟨HO, Hr2, Hv2, Ho⟩
  iapply (step_received m ρ K c 3 _ _ (off3_eq c 3) _ _ rfl) $$ HR HO Hv3 Ho; iintro ⟨HO, Hr3, Hv3, Ho⟩
  iapply (step_received m ρ K c 4 _ _ (off3_eq c 4) _ _ rfl) $$ HR HO Hv4 Ho; iintro ⟨HO, Hr4, Hv4, Ho⟩
  iapply (step_received m ρ K c 5 _ _ (off3_eq c 5) _ _ rfl) $$ HR HO Hv5 Ho; iintro ⟨HO, Hr5, Hv5, Ho⟩
  iapply (step_received m ρ K c 6 _ _ (off3_eq c 6) _ _ rfl) $$ HR HO Hv6 Ho; iintro ⟨HO, Hr6, Hv6, Ho⟩
  iapply (step_sent m ρ K c 0 (credit_y 0)) $$ HR HO Ht0; iintro ⟨HO, Hy0, Ht0⟩
  iapply (step_sent m ρ K c 1 (credit_y 1)) $$ HR HO Ht1; iintro ⟨HO, Hy1, Ht1⟩
  iapply (step_sent m ρ K c 2 (credit_y 2)) $$ HR HO Ht2; iintro ⟨HO, Hy2, Ht2⟩
  iapply (step_sent m ρ K c 3 (credit_y 3)) $$ HR HO Ht3; iintro ⟨HO, Hy3, Ht3⟩
  iapply (step_sent m ρ K c 4 (credit_y 4)) $$ HR HO Ht4; iintro ⟨HO, Hy4, Ht4⟩
  iapply (step_sent m ρ K c 5 (credit_y 5)) $$ HR HO Ht5; iintro ⟨HO, Hy5, Ht5⟩
  iapply (step_sent m ρ K c 6 (credit_y 6)) $$ HR HO Ht6; iintro ⟨HO, Hy6, Ht6⟩
  unfold Wp; rw [wp_ret]; imodintro
  iapply Hk
  unfold bodyEnd staged seven six eight
  ihave Ho := (Entails.of_eq (congrArg (outHas m ρ c) (all_rows c))) $$ Ho
  iframe

end Cert.KernelProof

end
-- ==== Proof.Deal.lean ====
/-
# What the launch deals each device

At launch every cell is at the start of its one round, and the tokens of a cell's duties are with the device that has the cell.
Every device puts its cells into invariants; then the tokens go to the devices that are to spend them: a barrier's token for duty
`p` to the device whose `p`-th signal raises it, an arrival's token to the device whose product arrives.
-/
module

public import proofs.«01_k».proof.Proof.Protocol
public import Idealize.ShloMosaic.Lib.Pipeline.Launch
public import Idealize.ShloMosaic.Lib.Pipeline.Kit

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

omit [FloatOps F] in
/-- Something for every cell of a device is something for its barrier, for its departures, for its arrivals. -/
theorem cells_split (Φ : CI → sProp 𝕄) : bigSep Finset.univ Φ
    = iprop(Φ (.inl ()) ∗ bigSep Finset.univ (fun i : Fin 7 => Φ (.inr (.inl i))) ∗ bigSep Finset.univ (fun i : Fin 7 => Φ (.inr (.inr i)))) := by
  rw [bigSep_univ_sum, bigSep_univ_sum, bigSep_univ_of_subsingleton ()]; rfl

/-- Different semaphores of the protocol are different cells. -/
theorem kcell_injective : Function.Injective (kcell : Dev nD × CI → GSem nD τ sig) := by
  rintro ⟨c, k⟩ ⟨c', k'⟩ h
  have h1 : c = c' := congrArg (fun g : GSem nD τ sig => g.1.1) h
  have h2 : k = k' := by
    have := congrArg (fun g : GSem nD τ sig => role g.2) h
    simpa only [role_csem, Option.some.injEq] using this
  rw [h1, h2]

def ringCells : Finset (GSem nD τ sig) := Finset.univ.map ⟨kcell, kcell_injective⟩

/-- A device's duties: its barrier's seven, and one for each departure and each arrival. -/
abbrev TI : Type := Fin 7 ⊕ (Fin 7 ⊕ Fin 7)

abbrev tokOf (cj : Dev nD × TI) : GSem nD τ sig × ℕ × Fin 7 := match cj.2 with
  | .inl p => (barCell cj.1, 0, p)
  | .inr k => (kcell (cj.1, .inr k), 0, 0)

/-- Different duties have different tokens. -/
theorem tokOf_injective : Function.Injective (tokOf : Dev nD × TI → GSem nD τ sig × ℕ × Fin 7) := by
  rintro ⟨c, j⟩ ⟨c', j'⟩ h
  have hk := congrArg Prod.fst h
  have hd := congrArg (fun x => x.2.2) h
  rcases j with p | k <;> rcases j' with p' | k'
  · have := kcell_injective hk; simp only [Prod.mk.injEq] at this hd; rw [this.1, show p = p' from hd]
  · have := kcell_injective hk; simp at this
  · have := kcell_injective hk; simp at this
  · have := kcell_injective hk; simp only [Prod.mk.injEq, Sum.inr.injEq] at this; rw [this.1, this.2]

def ringToks : Finset (GSem nD τ sig × ℕ × Fin 7) := Finset.univ.map ⟨tokOf, tokOf_injective⟩

/-- What the launch starts with: the staging pipeline's cells and tokens, this protocol's, no local copy under way. -/
def u₀ : UU :=
  (initOf (Pipeline.cells cfgs cellOf_inj) (Pipeline.launchToks cfgs cellOf_inj), (initOf ringCells ringToks, 1))

/-- The tokens of device `c`'s own cells. -/
def toks (c : Dev nD) : sProp 𝕄 :=
  iprop(bigSep Finset.univ (fun p : Fin 7 => dutyTok ER (barCell c) 0 p) ∗ bigSep Finset.univ (fun i : Fin 7 => dutyTok ER (sendCell c i) 0 0)
    ∗ bigSep Finset.univ (fun i : Fin 7 => dutyTok ER (recvCell c i) 0 0))

/-- What device `c` has of its cells at launch. -/
def G (c : Dev nD) : sProp 𝕄 :=
  iprop(bigSep Finset.univ (fun k : CI => roundState ER (rd m ρ) (kcell (c, k)) 0)
    ∗ bigSep Finset.univ (fun k : CI => atPos ER (kcell (c, k)) 0 ∅ 0) ∗ bigSep Finset.univ (fun k : CI => reached ER (kcell (c, k)) 0) ∗ toks c)

/-- The initial ring resource deals every device its cells' positions, records and tokens. -/
theorem fund_cells : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores -/

/-- The kernel's own semaphores: of the fetches, the departures, the arrivals. -/
abbrev osem : Fin 6 ⊕ (Fin 7 ⊕ Fin 7) → SemLoc sig
  | .inl k => .dma (fetchS k)
  | .inr (.inl i) => .dma (sendS i)
  | .inr (.inr i) => .dma (recvS i)

/-- The fetch, departure and arrival semaphores are the kernel's own semaphores, each once. -/
theorem ownSemFacts : Pipeline.OwnSemFacts cfg0.spec osem := by decide +kernel

/-- All fetch semaphores of a device at zero. -/
def fetches (c : Dev nD) : sProp 𝕄 := bigSep Finset.univ fun k : Fin 6 => semVal ((c : Thread nD τ), SemLoc.dma (fetchS k)) 0

omit [FloatOps F] in
/-- The kernel's own semaphores at zero, named one by one. -/
theorem ownSems0_eq (c : Dev nD) : (Pipeline.ownSems0 (Ix := Unit) (Name := ℕ) (U := UU) (Lvl := ℕ) (Val := Elt F) (τ := τ) osem c : sProp 𝕄)
    = iprop(fetches c ∗ bigSep Finset.univ (fun i : Fin 7 => semVal (sendCell c i) 0) ∗ bigSep Finset.univ (fun i : Fin 7 => semVal (recvCell c i) 0)) := by
  unfold Pipeline.ownSems0 fetches; rw [bigSep_univ_sum, bigSep_univ_sum]; rfl
omit [FloatOps F] in
/-- The barrier is the one semaphore that is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own semaphores and its barrier at zero, as the protocol's cells and the fetch semaphores. -/
theorem sems0_eq (c : Dev nD) :
    iprop(Pipeline.ownSems0 (Ix := Unit) (Name := ℕ) (U := UU) (Lvl := ℕ) (Val := Elt F) (τ := τ) osem c ∗ unscopedSems0 c)
      ⊢ (iprop(fetches c ∗ bigSep Finset.univ fun k : CI => semVal (kcell (c, k)) 0) : sProp 𝕄) := by
  rw [ownSems0_eq, unscopedSems0_eq, cells_split]
  iintro ⟨⟨HF, HS, HV⟩, HB⟩
  isplitl [HF]; · iexact HF
  isplitl [HB]; · iexact HB
  isplitl [HS]; · iexact HS
  iexact HV

/-! ## The invariants -/

/-- A device's cells go into invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (rd m ρ) κ (kcell (c, k))))
          ∗ bigSep Finset.univ (fun k : CI => reached ER (kcell (c, k)) 0)
          ∗ bigSep Finset.univ (fun k : CI => atPos ER (kcell (c, k)) 0 ∅ 0) ∗ fetches c ∗ toks c) := by
  unfold G
  iintro ⟨Hos, Hus, Hst, Hat, Hr, Htok⟩
  ihave Hv := (sems0_eq (F := F) c) $$ [Hos Hus]
  · isplitl [Hos] <;> iassumption
  icases Hv with ⟨HF, Hv⟩
  imod (show iprop((bigSep Finset.univ fun k : CI => semVal (kcell (c, k)) 0) ∗ bigSep Finset.univ fun k : CI => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [HF]; · iexact HF
  iexact Htok

/-- What all devices know, the order of waits apart. -/
def shared (K : Dev nD × CI → ℕ) : sProp 𝕄 :=
  iprop(bigSep Finset.univ (fun ck => cellInv ER (rd m ρ) (K ck) (kcell ck)) ∗ bigSep Finset.univ (fun ck : Dev nD × CI => reached ER (kcell ck) 0))

instance shared_persistent (K : Dev nD × CI → ℕ) : BI.Persistent (shared m ρ K) := by unfold shared; infer_instance

/-! ## The tokens, dealt to who spends them -/

/-- The tokens device `c` spends. -/
def payToks (c : Dev nD) : sProp 𝕄 :=
  iprop(bigSep Finset.univ (fun p : Fin 7 => dutyTok ER (barCell (nx p c)) 0 p) ∗ bigSep Finset.univ (fun i : Fin 7 => dutyTok ER (sendCell c i) 0 0)
    ∗ bigSep Finset.univ (fun i : Fin 7 => dutyTok ER (recvCell (nx i c) i) 0 0))

/-- Every device and place, with the device turned by the place. -/
def turnAll : Dev nD × Fin 7 ≃ Dev nD × Fin 7 :=
  ⟨fun x => (nx x.2 x.1, x.2), fun x => (nx x.2.rev x.1, x.2), fun x => Prod.ext (nx_rev x.2 x.1) rfl, fun x => Prod.ext (nx_of_rev x.2 x.1) rfl⟩

omit [FloatOps F] in
/-- A family over devices and places, turned at each place by that many devices. -/
theorem bigSep_turn (Φ : Dev nD → Fin 7 → sProp 𝕄) :
    (bigSep Finset.univ fun c : Dev nD => bigSep Finset.univ fun p : Fin 7 => Φ c p)
      = bigSep Finset.univ fun c : Dev nD => bigSep Finset.univ fun p : Fin 7 => Φ (nx p c) p := by
  rw [← bigSep_univ_prod (fun x : Dev nD × Fin 7 => Φ x.1 x.2), bigSep_univ_equiv turnAll, bigSep_univ_prod]; rfl

omit [FloatOps F] in
/-- The tokens dealt by receiver are, over all the devices, the tokens held by payer. -/
theorem toks_around : (bigSep Finset.univ fun c : Dev nD => (toks c : sProp 𝕄)) = bigSep Finset.univ fun c : Dev nD => payToks c := by
  unfold toks payToks
  rw [bigSep_sep', bigSep_sep', bigSep_sep', bigSep_sep', bigSep_turn (fun c p => dutyTok ER (barCell c) 0 p),
    bigSep_turn (fun c i => dutyTok ER (recvCell c i) 0 0)]

/-- What device `c` gets for its run: its places at its cells, its fetch semaphores, the tokens it spends. -/
def mine (c : Dev nD) : sProp 𝕄 :=
  iprop(bigSep Finset.univ (fun k : CI => atPos ER (kcell (c, k)) 0 ∅ 0) ∗ fetches c ∗ payToks c)

def G' (c : Dev nD) : sProp 𝕄 := iprop(∃ K, shared m ρ K ∗ mine c)

omit [FloatOps F] in
/-- A lasting fact can be used under every conjunct. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device's cells, records and tokens, regrouped: each device gets the tokens of the duties it pays. -/
theorem regroup :
    (bigSep Finset.univ fun c : Dev nD => iprop((bigSep Finset.univ fun k : CI => iprop(∃ κ : ℕ, cellInv ER (rd m ρ) κ (kcell (c, k))))
          ∗ bigSep Finset.univ (fun k : CI => reached ER (kcell (c, k)) 0)
          ∗ bigSep Finset.univ (fun k : CI => atPos ER (kcell (c, k)) 0 ∅ 0) ∗ fetches c ∗ toks c) : sProp 𝕄)
      ⊢ bigSep Finset.univ (G' m ρ) := by
  rw [bigSep_sep', bigSep_sep', bigSep_sep', bigSep_sep', toks_around,
    ← bigSep_univ_prod (fun ck : Dev nD × CI => iprop(∃ κ : ℕ, cellInv ER (rd m ρ) κ (kcell ck))),
    ← bigSep_univ_prod (fun ck : Dev nD × CI => (reached ER (kcell ck) 0 : sProp 𝕄))]
  iintro ⟨HI, #HR, Hat, HF, Htok⟩
  ihave HK := (BI.bigSep_exists_pi Finset.univ (fun (ck : Dev nD × CI) (κ : ℕ) => (cellInv ER (rd m ρ) κ (kcell ck) : sProp 𝕄))) $$ HI
  icases HK with ⟨%K, #HI⟩
  iapply (bigSep_with (R := shared m ρ K) (Φ := mine) fun c _ => by
    unfold G'; iintro ⟨HR, HM⟩; iexists K; isplitl [HR]; · iexact HR
    iexact HM)
  isplitr
  · unfold shared; isplitl; · iexact HI
    iexact HR
  · unfold mine; rw [bigSep_sep', bigSep_sep']
    isplitl [Hat]; · iexact Hat
    isplitl [HF]; · iexact HF
    iexact Htok

/-- From what every device has at launch to what every device needs for its run. -/
theorem glob : (bigSep Finset.univ fun c => iprop(Pipeline.ownSems0 (Ix := Unit) (Name := ℕ) (U := UU) (Lvl := ℕ) (Val := Elt F) (τ := τ) osem c
      ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

omit [FloatOps F] in
/-- A tally at one cell counts at that cell only. -/
theorem kcell_apply (a b : Dev nD × CI) (n : ℕ) : (tallyAt (kcell a) () n : CellTallies nD τ sig Unit) (kcell b) () = if a = b then n else 0 := by
  rw [tallyAt_apply]
  by_cases h : a = b
  · subst h; rw [if_pos ⟨rfl, rfl⟩, if_pos rfl]
  · rw [if_neg (fun h' => h (kcell_injective h'.1.symm)), if_neg h]

omit [FloatOps F] in
/-- What device `d` owes a cell: an arrival, a unit, or nothing. -/
theorem owed_apply (d : Dev nD) (ck : Dev nD × CI) : O₀ d (kcell ck) ()
    = (∑ i : Fin 7, if ((nx i d, .inr (.inr i)) : Dev nD × CI) = ck then N else 0) + ∑ p : Fin 7, if ((nx p d, .inl ()) : Dev nD × CI) = ck then 1 else 0 := by
  have hall : Finset.univ.filter (fun i : Fin 7 => 0 ≤ i.val) = Finset.univ := Finset.filter_true_of_mem fun _ _ => Nat.zero_le _
  unfold O₀ owedS owedB
  rw [hall, Pi.add_apply, Finsupp.add_apply, Finset.sum_apply, Finset.sum_apply, Finsupp.finset_sum_apply, Finsupp.finset_sum_apply]
  exact congrArg₂ _ (Finset.sum_congr rfl fun i _ => kcell_apply _ _ _) (Finset.sum_congr rfl fun p _ => kcell_apply _ _ _)

omit [FloatOps F] in
/-- Exactly one device is `i + 1` places before `c`. -/
theorem sum_turn (i : Fin 7) (c : Dev nD) (n : ℕ) : (∑ d : Dev nD, if nx i d = c then n else 0) = n := by
  rw [show (∑ d : Dev nD, if nx i d = c then n else 0) = ∑ d : Dev nD, if d = c then n else 0 from
    Equiv.sum_comp (turn i) (fun d => if d = c then n else 0), Finset.sum_ite_eq' Finset.univ c fun _ => n, if_pos (Finset.mem_univ _)]

omit [FloatOps F] in
/-- All the devices together owe a barrier seven units. -/
theorem owed_bar (c : Dev nD) : (∑ d : Dev nD, O₀ d (barCell c) ()) = 7 := by
  have h (d : Dev nD) : O₀ d (barCell c) () = ∑ p : Fin 7, if nx p d = c then 1 else 0 := by
    rw [owed_apply, Finset.sum_eq_zero (fun i _ => if_neg (fun h => by simp at h)), Nat.zero_add]
    exact Finset.sum_congr rfl fun p _ => by simp only [Prod.mk.injEq, and_true]
  rw [Finset.sum_congr rfl fun d _ => h d, Finset.sum_comm, Finset.sum_congr rfl fun p _ => sum_turn p c 1]
  rfl

omit [FloatOps F] in
/-- All the devices together owe an arrival semaphore the bytes of one product. -/
theorem owed_recv (c : Dev nD) (i : Fin 7) : (∑ d : Dev nD, O₀ d (recvCell c i) ()) = N := by
  have h (d : Dev nD) : O₀ d (recvCell c i) () = if nx i d = c then N else 0 := by
    rw [owed_apply, Finset.sum_eq_zero (f := fun p : Fin 7 => if ((nx p d, .inl ()) : Dev nD × CI) = (c, .inr (.inr i)) then 1 else 0)
      (fun p _ => if_neg (fun h => by simp at h)), Nat.add_zero, Finset.sum_eq_single i (fun j _ hj => if_neg (fun h => hj (by simpa using (congrArg Prod.snd h))))
      (fun h => absurd (Finset.mem_univ _) h)]
    simp only [Prod.mk.injEq, and_true]
  rw [Finset.sum_congr rfl fun d _ => h d, sum_turn]

omit [FloatOps F] in
/-- A device starts with credit for its barrier's seven units and for its seven arrivals. -/
theorem creds (c : Dev nD) : (Pipeline.launchCred O₀ c : sProp 𝕄)
    ⊢ iprop(cred (tallyAt (barCell c) () 7) ∗ bigSep Finset.univ fun i : Fin 7 => cred (tallyAt (recvCell c i) () N)) := by
  have hone (k : CI) (n : ℕ) (h : (∑ d : Dev nD, O₀ d (kcell (c, k)) ()) = n) :
      tallyOn (kcell (c, k)) (launchCredit (Pipeline.owing O₀) 0 (kcell (c, k))) = (tallyAt (kcell (c, k)) () n : CellTallies nD τ sig Unit) := by
    unfold tallyAt; refine congrArg _ (Finsupp.ext fun u => ?_); cases u
    rw [Pipeline.launchCredit_owing, Finsupp.single_eq_same, h]
  have hinj : Function.Injective csem := fun k k' h => by
    have := congrArg role h; simpa only [role_csem, Option.some.injEq] using this
  have hcut : (Pipeline.launchCred O₀ c : sProp 𝕄)
      ⊢ bigSep Finset.univ fun k : CI => cred (tallyOn (kcell (c, k)) (launchCredit (Pipeline.owing O₀) 0 (kcell (c, k)))) := by
    unfold Pipeline.launchCred
    refine (bigSep_subset (Finset.subset_univ (Finset.univ.map ⟨csem, hinj⟩))).trans ?_
    rw [bigSep_map]; exact BI.Entails.refl _
  iintro H
  ihave H := hcut $$ H
  ihave H := (Entails.of_eq (cells_split _)) $$ H
  icases H with ⟨HB, -, HR⟩
  isplitl [HB]
  · iapply (Entails.of_eq (congrArg cred (hone (.inl ()) 7 (owed_bar c)))); iexact HB
  · iapply (Entails.of_eq (bigSep_congr fun i _ => congrArg cred (hone (.inr (.inr i)) N (owed_recv c i)))); iexact HR

end Cert.KernelProof

end
-- ==== Proof.Launch.lean ====
/-
# The launch of the kernel on the eight devices

What the launch hands a device is cut into what the body's run starts from, and what the run ends in is put together again; then
the library's launch theorem gives the run of the whole program from any memory: it ends, with every device's result holding the
eight row blocks, its arguments unchanged and every semaphore at zero.
-/
module

public import proofs.«01_k».proof.Proof.Body
public import proofs.«01_k».proof.Proof.Deal
public import proofs.«01_k».proof.Proof.Gen.KernelIdeal.Launch
public import proofs.«01_k».proof.Proof.Gen.KernelIdeal.Points
public import Idealize.ShloMosaic.Lib.Ring
public import Idealize.ShloMosaic.Lib.Pipeline.Value
public import Idealize.ShloMosaic.Lib.Pipeline.CollectiveSegs
public import Idealize.ShloMosaic.Lib.Tactic

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The device whose rows hold place `i` of the result, and the place within them. -/
def rowOf (i : S4096x256.Idx) : Dev nD := ⟨(i 0).val / 512, Nat.div_lt_of_lt_mul (show (i 0).val < 512 * 8 from (i 0).isLt)⟩
def inRow (i : S4096x256.Idx) : S512x256.Idx
  | ⟨0, _⟩ => ⟨(i 0).val % 512, Nat.mod_lt _ (by decide)⟩
  | ⟨1, _⟩ => ⟨(i 1).val, (i 1).isLt⟩

/-- An index of the result is found in its owner's rows, at its place within them. -/
theorem row_emb (i : S4096x256.Idx) : (rowRect (rowOf i)).emb (inRow i) = i := by
  funext a; apply Fin.ext
  match a with
  | ⟨0, _⟩ => exact (by rw [Nat.one_mul]; exact Nat.div_add_mod _ _ : 512 * ((i 0).val / 512) + 1 * ((i 0).val % 512) = (i 0).val)
  | ⟨1, _⟩ => exact (by rw [Nat.one_mul, Nat.zero_add] : 0 + 1 * (i 1).val = (i 1).val)

/-- Device `c`'s result: in the rows of each device, what it has from that device. -/
def OUT (c : Dev nD) : (cc0_stg3_0 : Ref sig .tc).ty.Contents (Elt F) := fun i => blk m ρ c (rowOf i) (inRow i)

/-- A buffer with all its rows right is the result. -/
theorem out_of_rows (c : Dev nD) (f : (cc0_stg3_0 : Ref sig .tc).ty.Contents (Elt F))
    (h : ∀ j ∈ (Finset.univ : Finset (Dev nD)), oM.view.readAt (Elt F) (rowRect j).toLoadRect f = blk m ρ c j) : f = OUT m ρ c := by
  funext i
  have h1 := congrFun (h (rowOf i) (Finset.mem_univ _)) (inRow i)
  have h2 : oM.view.readAt (Elt F) (rowRect (rowOf i)).toLoadRect f (inRow i) = f ((rowRect (rowOf i)).emb (inRow i)) := rfl
  rw [h2, row_emb] at h1; exact h1

/-! ## What a device has before and after the kernel -/

/-- The second matrix, whole. -/
def gWhole (c : Dev nD) : sProp 𝕄 := ((c : Thread nD τ).loc main_arg1) ↦{fullShare} gv m c

/-- A buffer, whole, at some contents. -/
def some' (c : Dev nD) (b : Ref sig .tc) : sProp 𝕄 :=
  iprop(∃ f : Buf (Elt F) ((c : Thread nD τ).loc b), ((c : Thread nD τ).loc b) ↦{fullShare} f)

def start (c : Dev nD) : sProp 𝕄 :=
  iprop(G' m ρ c ∗ cred (tallyAt (barCell c) () 7) ∗ bigSep Finset.univ (fun i : Fin 7 => cred (tallyAt (recvCell c i) () N)) ∗ levAts L lv ∗ gWhole m c)

def scratch (c : Dev nD) : sProp 𝕄 :=
  iprop(some' c cc0_scratch0 ∗ some' c cc0_scratch1 ∗ some' c cc0_scratch2 ∗ some' c cc0_scratch3)

/-- Before: what the launch dealt and the scratch buffers; -/
def Φ₀ (c : Dev nD) : sProp 𝕄 := iprop(start m ρ c ∗ scratch c)

/-- after: every semaphore at zero, the second matrix, the scratch buffers. -/
def Φ₁ (c : Dev nD) : sProp 𝕄 :=
  iprop(semVal (barCell c) 0 ∗ gWhole m c ∗ (fetches c ∗ bigSep Finset.univ (fun i : Fin 7 => semVal (sendCell c i) 0)
    ∗ bigSep Finset.univ (fun i : Fin 7 => semVal (recvCell c i) 0)) ∗ scratch c)

/-- The staging pipeline's data: what the arrays hold, what the body leaves in the staging buffers, what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => sxv m ρ c
    | ⟨2, _⟩ => swv m ρ c
    | ⟨3, _⟩ => OUT m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

omit [FloatOps F] in
/-- The tokens, sorted by the steps that spend them. -/
theorem sorted (c : Dev nD) : iprop(mine c ∗ cred (tallyAt (barCell c) () 7) ∗ bigSep Finset.univ fun i : Fin 7 => cred (tallyAt (recvCell c i) () N))
    ⊢ (iprop(fetches c ∗ barTok c ∗ bigSep Finset.univ (sigTok c) ∗ bigSep Finset.univ (sendTok c) ∗ bigSep Finset.univ (recvTok c)) : sProp 𝕄) := by
  have h1 : bigSep Finset.univ (sendTok (F := F) c) = iprop(bigSep Finset.univ (fun i : Fin 7 => dutyTok ER (sendCell c i) 0 0)
      ∗ bigSep Finset.univ (fun i : Fin 7 => dutyTok ER (recvCell (nx i c) i) 0 0) ∗ bigSep Finset.univ (fun i : Fin 7 => atPos ER (sendCell c i) 0 ∅ 0)) := by
    rw [← bigSep_sep', ← bigSep_sep']; rfl
  have h2 : bigSep Finset.univ (recvTok (F := F) c) = iprop(bigSep Finset.univ (fun i : Fin 7 => atPos ER (recvCell c i) 0 ∅ 0)
      ∗ bigSep Finset.univ (fun i : Fin 7 => cred (tallyAt (recvCell c i) () N))) := by
    rw [← bigSep_sep']; rfl
  rw [h1, h2]; unfold mine payToks barTok
  iintro ⟨⟨Hat, HF, ⟨HdB, HdS, HdV⟩⟩, HcB, HcV⟩
  ihave Hat := (Entails.of_eq (cells_split _)) $$ Hat
  icases Hat with ⟨HaB, HaS, HaV⟩
  isplitl [HF]; · iexact HF
  isplitl [HaB HcB]
  · isplitl [HaB] <;> iassumption
  isplitl [HdB]; · iexact HdB
  isplitl [HdS HdV HaS]
  · isplitl [HdS]; · iexact HdS
    isplitl [HdV] <;> iassumption
  isplitl [HaV] <;> iassumption

omit [FloatOps F] in
/-- A scratch buffer is its slots: the fetched blocks', -/
theorem slots_w (c : Dev nD) : (some' c cc0_scratch1 : sProp 𝕄) ⊢ bigSep Finset.univ (wAny (F := F) c) := by
  unfold some'
  iintro ⟨%f, H⟩
  ihave H := (Entails.of_eq (Ring.pointsTo_blocks (fun k => (wRect k).set) wRect_disjoint wRect_cover f)) $$ H
  have h1 (k : Fin 6) : ((c : Thread nD τ).loc cc0_scratch1 ↦[(wRect k).set]{fullShare} f : sProp 𝕄) ⊢ wAny c k := by
    unfold wAny wPts; iintro H; iexists f; iexact H
  have h : (bigSep Finset.univ fun k : Fin 6 => ((c : Thread nD τ).loc cc0_scratch1 ↦[(wRect k).set]{fullShare} f : sProp 𝕄)) ⊢ bigSep Finset.univ (wAny (F := F) c) :=
    bigSep_mono fun k _ => h1 k
  iapply h; iexact H
omit [FloatOps F] in
/-- the outgoing products', -/
theorem slots_y (c : Dev nD) : (some' c cc0_scratch2 : sProp 𝕄) ⊢ bigSep Finset.univ (yAny (F := F) c) := by
  unfold some'
  iintro ⟨%f, H⟩
  ihave H := (Entails.of_eq (Ring.pointsTo_blocks (fun k => (yRect k).set) yRect_disjoint yRect_cover f)) $$ H
  have h1 (k : Fin 7) : ((c : Thread nD τ).loc cc0_scratch2 ↦[(yRect k).set]{fullShare} f : sProp 𝕄) ⊢ yAny c k := by
    unfold yAny yPts; iintro H; iexists f; iexact H
  have h : (bigSep Finset.univ fun k : Fin 7 => ((c : Thread nD τ).loc cc0_scratch2 ↦[(yRect k).set]{fullShare} f : sProp 𝕄)) ⊢ bigSep Finset.univ (yAny (F := F) c) :=
    bigSep_mono fun k _ => h1 k
  iapply h; iexact H
omit [FloatOps F] in
/-- the incoming products'. -/
theorem slots_r (c : Dev nD) : (some' c cc0_scratch3 : sProp 𝕄) ⊢ bigSep Finset.univ (rAny (F := F) c) := by
  unfold some'
  iintro ⟨%f, H⟩
  ihave H := (Entails.of_eq (Ring.pointsTo_blocks (fun k => (yRect k).set) yRect_disjoint yRect_cover f)) $$ H
  have h1 (k : Fin 7) : ((c : Thread nD τ).loc cc0_scratch3 ↦[(yRect k).set]{fullShare} f : sProp 𝕄) ⊢ rAny c k := by
    unfold rAny rPts; iintro H; iexists f; iexact H
  have h : (bigSep Finset.univ fun k : Fin 7 => ((c : Thread nD τ).loc cc0_scratch3 ↦[(yRect k).set]{fullShare} f : sProp 𝕄)) ⊢ bigSep Finset.univ (rAny (F := F) c) :=
    bigSep_mono fun k _ => h1 k
  iapply h; iexact H

include m in
/-- The slots make the buffer again. -/
theorem whole_w (c : Dev nD) : bigSep Finset.univ (wAny (F := F) c) ⊢ (some' c cc0_scratch1 : sProp 𝕄) := by
  have h : bigSep Finset.univ (fun k : Fin 6 => iprop(∃ f : Buf (Elt F) ((c : Thread nD τ).loc cc0_scratch1), (c : Thread nD τ).loc cc0_scratch1 ↦[(wRect k).set]{fullShare} f))
      ⊢ (iprop(∃ g : Buf (Elt F) ((c : Thread nD τ).loc cc0_scratch1), ((c : Thread nD τ).loc cc0_scratch1) ↦{fullShare} g) : sProp 𝕄) :=
    Ring.pointsTo_blocks_join_exists (ℓ := (c : Thread nD τ).loc cc0_scratch1) (fun k : Fin 6 => (wRect k).set) wRect_disjoint wRect_cover (q := fullShare) (m ((c : Thread nD τ).loc cc0_scratch1))
  unfold wAny wPts some'
  exact h
include m in
/-- The seven outgoing slots make up their buffer. -/
theorem whole_y (c : Dev nD) : bigSep Finset.univ (yAny (F := F) c) ⊢ (some' c cc0_scratch2 : sProp 𝕄) := by
  have h : bigSep Finset.univ (fun k : Fin 7 => iprop(∃ f : Buf (Elt F) ((c : Thread nD τ).loc cc0_scratch2), (c : Thread nD τ).loc cc0_scratch2 ↦[(yRect k).set]{fullShare} f))
      ⊢ (iprop(∃ g : Buf (Elt F) ((c : Thread nD τ).loc cc0_scratch2), ((c : Thread nD τ).loc cc0_scratch2) ↦{fullShare} g) : sProp 𝕄) :=
    Ring.pointsTo_blocks_join_exists (ℓ := (c : Thread nD τ).loc cc0_scratch2) (fun k : Fin 7 => (yRect k).set) yRect_disjoint yRect_cover (q := fullShare) (m ((c : Thread nD τ).loc cc0_scratch2))
  unfold yAny yPts some'
  exact h
include m in
/-- The seven incoming slots make up theirs. -/
theorem whole_r (c : Dev nD) : bigSep Finset.univ (rAny (F := F) c) ⊢ (some' c cc0_scratch3 : sProp 𝕄) := by
  have h : bigSep Finset.univ (fun k : Fin 7 => iprop(∃ f : Buf (Elt F) ((c : Thread nD τ).loc cc0_scratch3), (c : Thread nD τ).loc cc0_scratch3 ↦[(yRect k).set]{fullShare} f))
      ⊢ (iprop(∃ g : Buf (Elt F) ((c : Thread nD τ).loc cc0_scratch3), ((c : Thread nD τ).loc cc0_scratch3) ↦{fullShare} g) : sProp 𝕄) :=
    Ring.pointsTo_blocks_join_exists (ℓ := (c : Thread nD τ).loc cc0_scratch3) (fun k : Fin 7 => (yRect k).set) yRect_disjoint yRect_cover (q := fullShare) (m ((c : Thread nD τ).loc cc0_scratch3))
  unfold rAny rPts some'
  exact h

omit [FloatOps F] in
/-- The fetch slots at rest are the slots and their semaphores at zero. -/
theorem idle_all (c : Dev nD) : bigSep Finset.univ (idle (F := F) c) = iprop(bigSep Finset.univ (wAny (F := F) c) ∗ fetches c) := by
  unfold fetches; rw [← bigSep_sep']; rfl

/-- The part of the second matrix that no fetch reads through. -/
def gRest (c : Dev nD) : sProp 𝕄 := ((c : Thread nD τ).loc main_arg1) ↦{shareDrop fullShare 8} gv m c

/-- The whole second matrix gives one read share to each fetch, and a rest. -/
theorem g_split (c : Dev nD) : gWhole m c ⊢ iprop(gRest m c ∗ bigSep Finset.univ (gTok m c)) :=
  by unfold gWhole gRest gTok; exact Transfers.pointsTo_toks_split fullShare 8
/-- The rest and the read shares of all the fetches are the whole second matrix again. -/
theorem g_join (c : Dev nD) : iprop(gRest m c ∗ bigSep Finset.univ (gTok m c)) ⊢ gWhole m c :=
  by unfold gWhole gRest gTok; exact Transfers.pointsTo_toks_join fullShare 8

/-- From what the launch hands a device to what its run starts from. -/
theorem enter (c : Dev nD) : iprop(Φ₀ m ρ c ∗ owing c (O₀ c) ∗ staged m ρ c ∗ some' c cc0_stg3_0)
    ⊢ iprop(∃ K, recs m ρ K ∗ bodyStart m ρ c ∗ gRest m c) := by
  unfold Φ₀ start G' scratch
  iintro ⟨⟨⟨⟨%K, HS, HM⟩, HcB, HcV, Hlev, Hg⟩, Hs0, Hs1, Hs2, Hs3⟩, HO, Hst, Hout⟩
  ihave HT := (sorted (F := F) c) $$ [HM HcB HcV]
  · isplitl [HM]; · iexact HM
    isplitl [HcB] <;> iassumption
  icases HT with ⟨HF, HB, Hsig, Hsend, Hrecv⟩
  ihave Hw := (slots_w (F := F) c) $$ Hs1
  ihave Hy := (slots_y (F := F) c) $$ Hs2
  ihave Hr := (slots_r (F := F) c) $$ Hs3
  ihave HG := (g_split m c) $$ Hg
  icases HG with ⟨Hgr, Hgt⟩
  iexists K
  isplitl [HS Hlev]
  · unfold shared recs; icases HS with ⟨HI, HR⟩
    isplitl [HI]; · iexact HI
    isplitl [HR] <;> iassumption
  isplitr [Hgr]
  · unfold bodyStart
    rw [← seven_eq, ← seven_eq, ← seven_eq, ← seven_eq, ← seven_eq, ← six_eq, ← eight_eq, idle_all]
    isplitl [HO]; · iexact HO
    isplitl [HB]; · iexact HB
    isplitl [Hsig]; · iexact Hsig
    isplitl [Hr]; · iexact Hr
    isplitl [Hsend]; · iexact Hsend
    isplitl [Hrecv]; · iexact Hrecv
    isplitl [Hy]; · iexact Hy
    isplitl [Hw HF]
    · isplitl [Hw] <;> iassumption
    isplitl [Hgt]; · iexact Hgt
    isplitl [Hst]; · iexact Hst
    isplitl [Hs0]
    · unfold some'; iexact Hs0
    unfold some'; iexact Hout
  iexact Hgr

/-- The result buffer, at the result. -/
def outPts (c : Dev nD) : sProp 𝕄 :=
  iprop(∃ f : Buf (Elt F) ((c : Thread nD τ).loc cc0_stg3_0), ⌜f = OUT m ρ c⌝ ∗ (((c : Thread nD τ).loc cc0_stg3_0) ↦{fullShare} f))

/-- From what a device's run ends in to what it hands back. -/
theorem leave (c : Dev nD) : iprop(bodyEnd m ρ c ∗ gRest m c)
    ⊢ iprop(Φ₁ m c ∗ owing c 0 ∗ staged m ρ c ∗ outPts m ρ c) := by
  unfold bodyEnd Φ₁ scratch qHas outHas outPts
  rw [← seven_eq, ← seven_eq, ← seven_eq, ← seven_eq, ← six_eq, ← eight_eq, idle_all]
  iintro ⟨⟨HO, HzB, HzV, Hr, HzS, Hy, ⟨Hw, HF⟩, Hgt, Hst, ⟨%fq, Hq, -⟩, ⟨%fo, Ho, %hfo⟩⟩, Hgr⟩
  isplitr [HO Hst Ho]
  · isplitl [HzB]; · iexact HzB
    isplitl [Hgt Hgr]
    · iapply (g_join m c); isplitl [Hgr] <;> iassumption
    isplitl [HF HzS HzV]
    · isplitl [HF]; · iexact HF
      isplitl [HzS] <;> iassumption
    isplitl [Hq]
    · unfold some'; iexists fq; iexact Hq
    isplitl [Hw]
    · iapply (whole_w m c); iexact Hw
    isplitl [Hy]
    · iapply (whole_y m c); iexact Hy
    iapply (whole_r m c); iexact Hr
  isplitl [HO]; · iexact HO
  isplitl [Hst]; · iexact Hst
  iexists fo
  isplitr
  · ipureintro; exact out_of_rows m ρ c fo hfo
  iexact Ho

/-! ## The body's obligation -/

omit [FloatOps F] in
/-- Owning a whole buffer through its memref is owning the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ ∗ stg c cc0_stg0_0 (xv m ρ c) ∗ stg c cc0_stg1_0 (sxv m ρ c)
    ∗ stg c cc0_stg2_0 (swv m ρ c) ∗ stg c cc0_stg3_0 (OUT m ρ c))

/-- What the launch hands the body, as the body's proof takes it. -/
theorem pre_enter (c : Dev nD) : bodyPre m ρ c ⊢ iprop(Φ₀ m ρ c ∗ owing c (O₀ c) ∗ staged m ρ c ∗ some' c cc0_stg3_0) := by
  unfold bodyPre staged some' owing Dat.owesAt Pipeline.owesWithin
  iintro ⟨HΦ, ⟨%W, %hW, HO⟩, ⟨%d0, %g0, %hg0, H0⟩, ⟨%d1, %g1, %hg1, H1⟩, ⟨%d2, %g2, %hg2, H2⟩, ⟨%d3, %g3, %hg3, H3⟩⟩
  have h0 : g0 = xv m ρ c := by rw [hg0]; unfold Dat.before; rw [if_pos (fetch0_0 t0_0)]; rfl
  have h1 : g1 = sxv m ρ c := by rw [hg1]; unfold Dat.before; rw [if_pos (fetch0_1 t0_0)]; rfl
  have h2 : g2 = swv m ρ c := by rw [hg2]; unfold Dat.before; rw [if_pos (fetch0_2 t0_0)]; rfl
  subst h0 h1 h2
  isplitl [HΦ]; · iexact HΦ
  isplitl [HO]
  · iexists W; iexact HO
  isplitl [H0 H1 H2]
  · isplitl [H0]; · iexact H0
    isplitl [H1] <;> iassumption
  iexists g3; iexact H3

/-- What the body's proof leaves, as the launch takes it back. -/
theorem leave_post (c : Dev nD) : iprop(Φ₁ m c ∗ owing c 0 ∗ staged m ρ c ∗ outPts m ρ c) ⊢ bodyPost m ρ c := by
  unfold bodyPost staged owing outPts Dat.owesAt Pipeline.owesWithin
  rw [show (dats m ρ 0 c).owed t0_0.succ = 0 from rfl]
  iintro ⟨HΦ, ⟨%W, HO⟩, ⟨H0, H1, H2⟩, H3⟩
  isplitl [HΦ]; · iexact HΦ
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexact H3

set_option maxRecDepth 65536 in
/-- The kernel's body does what the staging pipeline asks of it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ Wp c (cc0_body (Memref.whole cc0_stg0_0) (Memref.isWhole_whole _) (Memref.whole main_arg1) (Memref.isWhole_whole _)
        (Memref.whole cc0_stg1_0) (Memref.isWhole_whole _) (Memref.whole cc0_stg2_0) (Memref.isWhole_whole _)
        (Memref.whole cc0_stg3_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 cc0_scratch6) (fun _ => bodyPost m ρ c)
  iintro H
  ihave H := (pre_enter m ρ c) $$ H
  ihave H := (enter m ρ c) $$ H
  icases H with ⟨%K, #HR, HS, Hg⟩
  iapply (run_body m ρ K c fun _ => bodyPost m ρ c) $$ HR HS
  iintro HE
  iapply (leave_post m ρ c)
  iapply (leave m ρ c)
  isplitl [HE] <;> iassumption

end Cert.KernelProof

end
-- ==== Proof.Run.lean ====
/-
# The run of the whole program

From any memory with every semaphore at zero, on the eight devices, every fair execution ends; at its end every device's result
array holds what the eight devices sent it, the arguments are unchanged, and every semaphore is at zero again.
-/
module

public import proofs.«01_k».proof.Proof.Launch
public import Idealize.ShloMosaic.Lib.Pipeline.ValueKit

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every staged window is held in full. -/
theorem share_eq (c : Dev nD) (w : Fin cfg0.W) : (dats m ρ 0 c).share w = fullShare := by unfold Dat.share; split <;> rfl

/-- What the launch gives a device outside its staging buffers is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hg, Hlev, Hcr, -, HG⟩
  ihave Hc := (creds (F := F) c) $$ Hcr
  icases Hc with ⟨HB, HV⟩
  imodintro
  unfold start gWhole gv
  isplitl
  · isplitl [HG]; · iexact HG
    isplitl [HB]; · iexact HB
    isplitl [HV]; · iexact HV
    isplitl [Hlev]; · iexact Hlev
    iexact Hg
  · iempintro

/-- With the scratch buffers it is the body's first state. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch some'
  iintro ⟨Hs, -, Hr⟩
  isplitl [Hs] <;> iassumption

/-- What a device has at the end that is nobody else's to read: its barrier at zero, the second matrix. -/
def kept (c : Dev nD) : sProp 𝕄 := iprop(unscopedSems0 c ∗ gWhole m c)

/-- The body's last state gives back what the device keeps, its own semaphores at zero, and the scratch buffers. -/
theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ kept scratch some'
  rw [unscopedSems0_eq]
  iintro ⟨HzB, Hg, Hz, Hr⟩
  isplitl [HzB Hg]
  · isplitl [HzB] <;> iassumption
  isplitl [Hz] <;> iassumption

/-- The waits of the staging copies are below everything the devices owe. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact fun g u h => O₀_pos h
      · exact fun g u h => absurd h (Nat.lt_irrefl 0))

/-- At the end, the second matrix is as it was and the barrier is at zero. -/
def keptQ (c : Dev nD) (s : MemSt nD τ sig (Elt F)) : Prop :=
  (∀ sm : SemLoc sig, sm.isScoped .tc = false → s.sem ((c : Thread nD τ), sm) = 0)
    ∧ s.mem ((c : Thread nD τ).loc main_arg1) = m ((c : Thread nD τ).loc main_arg1)

/-- What a device keeps tells the final memory: the second matrix is unchanged and the barrier is at zero. -/
theorem kept_read (c : Dev nD) (s' : Phys nD τ sig (Elt F)) :
    iprop(kept m c ∗ emp ∗ SI s') ⊢ (|={Set.univ}=> iprop(⌜keptQ m c s'.mem⌝ ∗ SI s') : sProp 𝕄) := by
  unfold kept gWhole
  iintro ⟨⟨Hu, Hg⟩, -, HSI⟩
  icombine HSI Hg gives %h
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ h⟩
  iexact HSI

/-- What a staged array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

omit [FloatOps F] in
/-- The protocol's cells and tokens, as part of what the launch starts with. -/
theorem ER_own : (BI.own (embR (initOf ringCells ringToks, (1 : Counters))) : sProp 𝕄) = BI.own (ER (initOf ringCells ringToks)) := rfl

set_option maxRecDepth 8000 in
/-- The program runs to its end, whatever the float values: each staged array at its final contents, the second matrix
    unchanged, every semaphore at zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (Entails.of_eq ER_own) $$ HX
      imod (fund_cells m ρ) $$ HX with HG
      imodintro
      isplitl [HP] <;> iassumption)
    (hglob := glob m ρ)
    (hA := fun _ _ => rfl) (hpf := fun _ k => k.elim0)
    (X := start m ρ) (Y := kept m) (Z := fun _ => iprop(emp))
    (hX := start_intro m ρ) (hin := phi0_intro m ρ) (hout := phi1_exit m ρ)
    (QY := keptQ m)
    (hY := kept_read m)
    (hQ := fun _ h hs => ⟨fun c => ⟨fun w => (h c).1 w, (h c).2.2.2⟩, sem_eq_zero hs fun c => (h c).2.2.1⟩)

/-- An argument's array after the run holds what it held. -/
theorem final_in (c : Dev nD) (w : Fin cfg0.W) (hw : (cfg0.win w).isOut = false) :
    finalA m ρ c w = m ((cfg0.win w).arr.view.loc (c : Thread nD τ)) := (dats (F := F) m ρ 0 c).arrAt_in w hw _

/-- The result's array after the run holds the result. -/
theorem final_out (c : Dev nD) : finalA m ρ c (3 : Fin 4) = OUT m ρ c := by
  refine (dats m ρ 0 c).arrAt_eq_of_after_last (3 : Fin 4) t0_0 (by decide +kernel) (OUT m ρ c) fun j => ?_
  rfl

/-- The program's run, array by array. -/
theorem run_main : θ_run defs (onTc (τ := τ) (main (F := F))) (s₀ m ρ) (fun r => (∀ c : Dev nD,
      r.2.mem ((c : Thread nD τ).loc main_v1) = OUT m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c => ⟨((h.1 c).1 (3 : Fin 4)).trans (final_out m ρ c),
    ((h.1 c).1 (0 : Fin 4)).trans (final_in m ρ c 0 rfl), (h.1 c).2, ((h.1 c).1 (1 : Fin 4)).trans (final_in m ρ c 1 rfl),
    ((h.1 c).1 (2 : Fin 4)).trans (final_in m ρ c 2 rfl)⟩, h.2⟩) (run_arrays m ρ)

end Cert.KernelProof

end
-- ==== Proof.Block.lean ====
/-
# What one block computes, in exact arithmetic

Exact arithmetic does not round, so the kernel's changes of format are identities there: a block's product is the plain
sum over the shared dimension, scaled, whether the device keeps it or sends it and the receiver widens it again.
-/
module

public import proofs.«01_k».proof.Proof.Gen.KernelIdeal.Skeleton
public import Idealize.ShloMosaic.Lib.Pointwise

@[expose] public section

noncomputable section

namespace Cert.KernelProof

open Cert.KernelIdeal Cert.KernelIdeal.Gen
open Idealize.ShloMosaic

variable (v : Ideal .f32) (x : Vec Ideal S512x4096 .f32) (w : Vec Ideal S1x4096x256 .f32)

/-- The entry of a block's scaled product in row `r` and column `q`. -/
def entry (r : Fin 512) (q : Fin 256) : Ideal .f32 := (∑ k : Fin 4096, x (ix2 r k) * w (ix3 0 k q)) * v

set_option maxRecDepth 16384 in
/-- The block a device keeps holds the scaled product. -/
theorem kept_entry (r : Fin 512) (q : Fin 256) : k0_pay11 v (k0_pay2 x) w (ix2 r q) = entry v x w r q := by
  unfold entry
  pointwise [k0_pay11, k0_pay2]

set_option maxRecDepth 16384 in
/-- The block a device sends, as its receiver widens it, holds the scaled product too. -/
theorem sent_entry (r : Fin 512) (q : Fin 256) :
    k0_pay12 (k0_pay3 v (k0_pay2 x) w) (ix2 r q) = entry v x w r q := by
  unfold entry
  pointwise [k0_pay12, k0_pay3, k0_pay2]

/-- The scale is the product of the two scales. -/
theorem scale_entry (a b : Ideal .f32) : k0_pay1 a b = a * b := rfl

end Cert.KernelProof

end
-- ==== Proof.Array.lean ====
/-
# What the result array holds, in exact arithmetic

Row `i` of device `c`'s result was computed by the device that owns row `i` of the product; whichever slot it came through,
it is that device's row times column block `c` of its copy of the second matrix, times the product of its two scales.
-/
module

public import proofs.«01_k».proof.Proof.Launch
public import proofs.«01_k».proof.Proof.Block
public import Idealize.ShloMosaic.Lib.Pipeline.ValueKit

@[expose] public section

noncomputable section

namespace Cert.KernelProof

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- Device `c`'s rows of the first matrix, its copy of the second, and its two scales. -/
def xOf (c : Dev nD) : Vec Ideal S512x4096 .f32 := m ((c : Thread nD τ).loc main_arg0)
def wOf (c : Dev nD) : Vec Ideal S4096x2048 .f32 := m ((c : Thread nD τ).loc main_arg1)
def sxOf (c : Dev nD) : Vec Ideal S1 .f32 := m ((c : Thread nD τ).loc main_arg2)
def swOf (c : Dev nD) : Vec Ideal S1 .f32 := m ((c : Thread nD τ).loc main_arg3)

/-- The staged rows are the argument's. -/
theorem rows_read (c : Dev nD) : xM.view.readAt (Elt Ideal) xRect.toLoadRect (xv m ρ c) = xOf m c := by
  refine (Memref.readAt_unit_zero (Elt Ideal) _ (by decide) _ _).trans ?_
  funext i
  refine congrArg (xOf m c) ?_
  blk_ext
  · exact Nat.zero_add _
  · exact Nat.zero_add _

/-- Column `q` of block `d`, among all the columns. -/
def col (d : Dev nD) (q : Fin 256) : Fin 2048 := ⟨256 * d.val + q.val, by have := d.isLt; have h : nD = 8 := rfl; omega⟩

/-- The block fetched for step `t` is column block `(c + t + 1) mod 8`. -/
theorem block_read (c : Dev nD) (t : Fin 8) (d : Dev nD) (hd : (c.val + t.val + 1) % 8 = d.val) (k : Fin 4096) (q : Fin 256) :
    wv m c t (ix3 0 k q) = wOf m c (ix2 k (col d q)) := by
  refine congrArg (wOf m c) ?_
  have hy : (Shape.reshapeEquiv squeezes_S1x4096x256_S4096x256.numel_eq).symm (ix3 0 k q) = (ix2 k q : S4096x256.Idx) := by
    rw [Equiv.symm_apply_eq]
    pointwise
  refine (congrArg (gBlock c t).view.emb hy).trans (funext fun a => Fin.ext ?_)
  have h := congrFun (off1_eq c t) a
  refine (show _ = k0_off1 c (BitVec.ofNat 32 t.val) a + ((ix2 k q : S4096x256.Idx) a).val from ValueKit.rect_emb_unit_val _ _ _ _ _).trans ?_
  rw [h]
  match a with
  | 0 => exact Nat.zero_add _
  | 1 => exact congrArg (256 * · + q.val) hd

/-- The scale is the product of the device's two scales. -/
theorem scale_read (c : Dev nD) : sc m ρ c = sxOf m c (ix1 0) * swOf m c (ix1 0) := by
  refine congrArg₂ (· * ·) (congrArg (sxOf m c) ?_) (congrArg (swOf m c) ?_)
  · blk_ext
    rfl
  · blk_ext
    rfl

/-- The entry of the scaled product that device `c`'s result holds in row `r` of device `j`'s rows, column `q`. -/
theorem blk_entry (c j : Dev nD) (r : Fin 512) (q : Fin 256) :
    blk m ρ c j (ix2 r q)
      = (∑ k : Fin 4096, xOf m j (ix2 r k) * wOf m j (ix2 k (col c q))) * (sxOf m j (ix1 0) * swOf m j (ix1 0)) := by
  have step : ∀ t : Fin 8, (j.val + t.val + 1) % 8 = c.val → entry (sc m ρ j) (xOf m j) (wv m j t) r q
      = (∑ k : Fin 4096, xOf m j (ix2 r k) * wOf m j (ix2 k (col c q))) * (sxOf m j (ix1 0) * swOf m j (ix1 0)) := by
    intro t ht
    unfold entry
    rw [scale_read]
    exact congrArg (· * (sxOf m j (ix1 0) * swOf m j (ix1 0)))
      (Finset.sum_congr rfl fun k _ => congrArg (xOf m j (ix2 r k) * ·) (block_read m j t c ht k q))
  unfold blk
  split
  · rename_i h
    subst h
    unfold own x8
    rw [rows_read, kept_entry]
    exact step 7 (by clear step; revert j; decide)
  · rename_i h
    unfold yv x8
    rw [rows_read, sent_entry]
    exact step _ (by clear step; revert h; revert j c; decide)

end Cert.KernelProof

end
-- ==== Proof.Reference.lean ====
/-
# What the reference computes, in exact arithmetic

The whole product, entry by entry, times the product of the two scales.
-/
module

public import proofs.«01_k».proof.Proof.Gen.ReferenceIdeal.Run
public import Idealize.ShloMosaic.Lib.Pointwise

@[expose] public section

noncomputable section

namespace Cert.KernelProof

open Cert.ReferenceIdeal Cert.ReferenceIdeal.Gen
open Idealize.ShloMosaic

variable (x : FVec Ideal S4096x4096 .f32) (w : FVec Ideal S4096x2048 .f32) (a b : FVec Ideal S1 .f32)

/-- The reference's result, as a function of its four arguments. -/
def REF : FVec Ideal S4096x2048 .f32 :=
  mulf (Host.dotGeneral dot_S4096x4096_S4096x2048_S4096x2048_1_0_0_1_n_n none x w)
    (broadcastInDim S4096x2048 ![0, 1] bcast_S1x1_S4096x2048_0_1 (broadcastInDim S1x1 ![1] bcast_S1_S1x1_1 (mulf a b)))

set_option maxRecDepth 16384 in
/-- Its entry in row `i`, column `j`. -/
theorem ref_entry (i : Fin 4096) (j : Fin 2048) :
    REF x w a b (ix2 i j) = (∑ k : Fin 4096, x (ix2 i k) * w (ix2 k j)) * (a (ix1 0) * b (ix1 0)) := by
  pointwise [REF]

end Cert.KernelProof

end
-- ==== Proof.Equation.lean ====
/-
# The kernel's result is its part of the reference's

When the devices hold the rows of the whole first matrix, and copies of the second matrix and of the scales, what every device
ends with is its column block of the reference's result. Entry by entry both are one sum of products times one scale.
-/
module

public import proofs.«01_k».proof.Proof.Array
public import proofs.«01_k».proof.Proof.Reference
public import Idealize.ShloMosaic.Lib.Layout

@[expose] public section

noncomputable section

namespace Cert.KernelProof

open Cert.KernelIdeal Cert.KernelIdeal.Gen
open Idealize.ShloMosaic Idealize.ShloMosaic.TcCoe

variable (m : (ℓ : Loc nD τ sig) → Buf (Elt Ideal) ℓ) (ρ : Dev nD → PrngReg)
variable (X : FVec Ideal ⟨2, ![4096, 4096]⟩ .f32) (W : FVec Ideal ⟨2, ![4096, 2048]⟩ .f32) (A B : FVec Ideal ⟨1, ![1]⟩ .f32)

/-- Row `p` of the whole first matrix is row `p mod 512` of the device that owns it. -/
theorem row_of_whole (hX : ∀ c : Dev nD, xOf m c = Layout.block ⟨2, ![512, 4096]⟩ ⟨2, ![4096, 4096]⟩ 0 8 c X)
    (p : Fin 4096) (q : Fin 256) (k : Fin 4096) :
    xOf m (rowOf (ix2 p q)) (ix2 ⟨p.val % 512, Nat.mod_lt _ (by decide)⟩ k) = X (ix2 p k) := by
  rw [hX]
  refine congrArg X (funext fun a => Fin.ext ?_)
  match a with
  | 0 => exact Nat.div_add_mod' p.val 512
  | 1 => rfl

/-- Column `q` of column block `c` is column `256 c + q` of the whole result. -/
theorem col_of_whole (h : Layout.Tiles ⟨2, ![4096, 256]⟩ ⟨2, ![4096, 2048]⟩ 1 8) (c : Dev nD) (p : Fin 4096) (q : Fin 256) :
    h.idx c (ix2 p q) = ix2 p (col c q) := by
  funext a
  refine Fin.ext ?_
  match a with
  | 0 => rfl
  | 1 => exact congrArg (· + q.val) (Nat.mul_comm c.val 256)

/-- What device `c` ends with is its column block of the reference's result. -/
theorem out_eq (hX : ∀ c : Dev nD, xOf m c = Layout.block ⟨2, ![512, 4096]⟩ ⟨2, ![4096, 4096]⟩ 0 8 c X)
    (hW : ∀ c : Dev nD, wOf m c = W) (hA : ∀ c : Dev nD, sxOf m c = A) (hB : ∀ c : Dev nD, swOf m c = B) (c : Dev nD) :
    OUT m ρ c = Layout.block ⟨2, ![4096, 256]⟩ ⟨2, ![4096, 2048]⟩ 1 8 c (REF X W A B) := by
  funext i
  obtain ⟨p, q, rfl⟩ : ∃ (p : Fin 4096) (q : Fin 256), i = (ix2 p q : S4096x256.Idx) := ⟨i 0, i 1, eq_ix2 i⟩
  have hr : inRow (ix2 p q) = ix2 ⟨p.val % 512, Nat.mod_lt _ (by decide)⟩ q := by
    rw [eq_ix2 (inRow (ix2 p q))]
    rfl
  have hk : OUT m ρ c (ix2 p q) = (∑ k : Fin 4096, X (ix2 p k) * W (ix2 k (col c q))) * (A (ix1 0) * B (ix1 0)) := by
    show blk m ρ c (rowOf (ix2 p q)) (inRow (ix2 p q)) = _
    rw [hr, blk_entry, hW, hA, hB]
    exact congrArg (· * (A (ix1 0) * B (ix1 0)))
      (Finset.sum_congr rfl fun k _ => congrArg (· * W (ix2 k (col c q))) (row_of_whole m X hX p q k))
  rw [hk, Layout.block_apply, col_of_whole]
  exact (ref_entry X W A B p (col c q)).symm

end Cert.KernelProof

end
-- ==== Proof.lean ====
/-
# The claims about the all-to-all product of kernels/v06.py

The kernel's program, and the same text read in exact arithmetic, run to their ends and leave their arguments and every semaphore
as they were (Proof/Run.lean, once for both readings); the reference does; the exact reading is the program's own text; and in
exact arithmetic every device ends with its column block of the reference's result (Proof/Equation.lean).
-/
module

public import proofs.«01_k».proof.Defs
public import proofs.«01_k».proof.Proof.Run
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- In the machine's arithmetic the bodies of the kernel's program are those of its exact text: the two are one text. -/
theorem bodies_same : Cert.Kernel.defs₀ (F := Bits) = Cert.KernelIdeal.defs₀ (F := Bits) := by
  unfold Cert.Kernel.defs₀ Cert.KernelIdeal.defs₀
  refine congrArg Defs.onTc (funext fun ℓ => funext fun a => ?_)
  obtain ⟨ℓ, h⟩ := ℓ
  match ℓ, h, a with
  | 0, _, (t, s) => rfl

/-- So are the bodies around them that stage the arguments and the result. -/
theorem defs_same : Cert.Kernel.defs (F := Bits) = Cert.KernelIdeal.defs (F := Bits) :=
  congrArg (Pipeline.defs Cert.Kernel.pcfgs) bodies_same

set_option maxHeartbeats 4000000 in
/-- The kernel ends from any memory, its arguments unchanged and every semaphore at zero. -/
theorem frame_kernel : Cert.quiescent_Kernel := fun m ρ _ =>
  Eq.mpr (congrArg (fun d => θ_run d (onTc (τ := Cert.Kernel.τ) (Cert.Kernel.main (F := Bits))) ⟨m, fun _ => 0, ρ⟩ _) defs_same)
    ((θ_run Cert.KernelIdeal.defs _ _).mono (fun _ h => ⟨fun c => (h.1 c).2, h.2⟩) (Cert.KernelProof.run_main (F := Bits) m ρ))

/-- So does the kernel in exact arithmetic. -/
theorem frame_kernelIdeal : Cert.quiescent_KernelIdeal := fun m ρ _ =>
  (θ_run Cert.KernelIdeal.defs _ _).mono (fun _ h => ⟨fun c => (h.1 c).2, h.2⟩) (Cert.KernelProof.run_main (F := Ideal) m ρ)

/-- So does the reference, which has no semaphore at all. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- In exact arithmetic, where the devices' arguments are their parts of the reference's, every device ends with its column block
    of the reference's result. -/
theorem algebraic : Cert.algebraic_KernelIdeal_ReferenceIdeal := by
  intro m ρ m' ρ' _ hagree
  refine ⟨_, (θ_run Cert.KernelIdeal.defs _ _).mono (fun _ h c => ⟨(h.1 c).1.trans ?_, (h.1 c).2⟩)
      (Cert.KernelProof.run_main (F := Ideal) m ρ),
    (θ_run Cert.ReferenceIdeal.defs _ _).mono (fun _ h => h 0) (Cert.ReferenceIdeal.Value.run m' ρ')⟩
  exact Cert.KernelProof.out_eq m ρ _ _ _ _ (fun d => (hagree d).1) (fun d => (hagree d).2.1)
    (fun d => (hagree d).2.2.1) (fun d => (hagree d).2.2.2) c

/-- The five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
